-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_asg_names_clusters [hPre_asg_names_clusters : Cert.Pre_asg_names_clusters.Facts] (m : (ℓ : Loc Cert.KernelIdeal.nD Cert.KernelIdeal.τ Cert.KernelIdeal.sig) → Buf (Elt Ideal) ℓ) : Prop :=
  ∀ c : Dev Cert.KernelIdeal.nD,
    (Cert.Pre_asg_names_clusters.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_asg_names_clusters [hPre_asg_names_clusters : Cert.Pre_asg_names_clusters.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_asg_names_clusters.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectIdeal_finite [hPre_finite : Cert.Pre_finite.Facts] (m : (ℓ : Loc Cert.ProjectIdeal.nD Cert.ProjectIdeal.τ Cert.ProjectIdeal.sig) → Buf (Elt Ideal) ℓ) : Prop :=
  ∀ c : Dev Cert.ProjectIdeal.nD,
    (Cert.Pre_finite.fn (F := Ideal) (m ((c.tc : Thread Cert.ProjectIdeal.nD Cert.ProjectIdeal.τ).loc Cert.ProjectIdeal.main_arg0)) (m ((c.tc : Thread Cert.ProjectIdeal.nD Cert.ProjectIdeal.τ).loc Cert.ProjectIdeal.main_arg1)) (m ((c.tc : Thread Cert.ProjectIdeal.nD Cert.ProjectIdeal.τ).loc Cert.ProjectIdeal.main_arg2))) = (fun _ => 1#1)

def Pre_ProjectionIdeal (m : (ℓ : Loc Cert.ProjectionIdeal.nD Cert.ProjectionIdeal.τ Cert.ProjectionIdeal.sig) → Buf (Elt Ideal) ℓ) : Prop :=
  True

def Pre_ProjectionIdeal_finite [hPre_finite : Cert.Pre_finite.Facts] (m : (ℓ : Loc Cert.ProjectionIdeal.nD Cert.ProjectionIdeal.τ Cert.ProjectionIdeal.sig) → Buf (Elt Ideal) ℓ) : Prop :=
  ∀ c : Dev Cert.ProjectionIdeal.nD,
    (Cert.Pre_finite.fn (F := Ideal) (m ((c.tc : Thread Cert.ProjectionIdeal.nD Cert.ProjectionIdeal.τ).loc Cert.ProjectionIdeal.main_arg0)) (m ((c.tc : Thread Cert.ProjectionIdeal.nD Cert.ProjectionIdeal.τ).loc Cert.ProjectionIdeal.main_arg1)) (m ((c.tc : Thread Cert.ProjectionIdeal.nD Cert.ProjectionIdeal.τ).loc Cert.ProjectionIdeal.main_arg2))) = (fun _ => 1#1)

def Pre_Normalise (m : (ℓ : Loc Cert.Normalise.nD Cert.Normalise.τ Cert.Normalise.sig) → Buf (Elt Bits) ℓ) : Prop :=
  True

def Pre_NormaliseIdeal (m : (ℓ : Loc Cert.NormaliseIdeal.nD Cert.NormaliseIdeal.τ Cert.NormaliseIdeal.sig) → Buf (Elt Ideal) ℓ) : Prop :=
  True

def Pre_NormalisationIdeal (m : (ℓ : Loc Cert.NormalisationIdeal.nD Cert.NormalisationIdeal.τ Cert.NormalisationIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_asg_names_clusters [hKernelIdeal : Cert.KernelIdeal.Facts] [hPre_asg_names_clusters : Cert.Pre_asg_names_clusters.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_asg_names_clusters m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_asg_names_clusters [hReferenceIdeal : Cert.ReferenceIdeal.Facts] [hPre_asg_names_clusters : Cert.Pre_asg_names_clusters.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_asg_names_clusters m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2))
      ∧ r.2.sem = fun _ => 0)

def quiescent_ProjectIdeal_pre_finite [hProjectIdeal : Cert.ProjectIdeal.Facts] [hPre_finite : Cert.Pre_finite.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal_finite m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2))
      ∧ r.2.sem = fun _ => 0)

def quiescent_ProjectionIdeal [hProjectionIdeal : Cert.ProjectionIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg), Pre_ProjectionIdeal m →
    θ_run (Cert.ProjectionIdeal.defs (F := Ideal)) (onTc (τ := Cert.ProjectionIdeal.τ) (Cert.ProjectionIdeal.main (F := Ideal))) ⟨m, fun _ => 0, g⟩ (fun r => (∀ c : Dev Cert.ProjectionIdeal.nD,
      r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
      ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
      ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2))
      ∧ r.2.sem = fun _ => 0)

def quiescent_ProjectionIdeal_pre_finite [hProjectionIdeal : Cert.ProjectionIdeal.Facts] [hPre_finite : Cert.Pre_finite.Facts] : Prop :=
  ∀ (m : (ℓ : Loc Cert.ProjectionIdeal.nD Cert.ProjectionIdeal.τ Cert.ProjectionIdeal.sig) → Buf (Elt Ideal) ℓ) (g : Dev Cert.ProjectionIdeal.nD → PrngReg), Pre_ProjectionIdeal_finite m →
    θ_run (Cert.ProjectionIdeal.defs (F := Ideal)) (onTc (τ := Cert.ProjectionIdeal.τ) (Cert.ProjectionIdeal.main (F := Ideal))) ⟨m, fun _ => 0, g⟩ (fun r => (∀ c : Dev Cert.ProjectionIdeal.nD,
      r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
      ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
      ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2))
      ∧ r.2.sem = fun _ => 0)

def quiescent_Normalise [hNormalise : Cert.Normalise.Facts] : Prop :=
  ∀ (m : (ℓ : Loc Cert.Normalise.nD Cert.Normalise.τ Cert.Normalise.sig) → Buf (Elt Bits) ℓ) (g : Dev Cert.Normalise.nD → PrngReg), Pre_Normalise m →
    θ_run (Cert.Normalise.defs (F := Bits)) (onTc (τ := Cert.Normalise.τ) (Cert.Normalise.main (F := Bits))) ⟨m, fun _ => 0, g⟩ (fun r => (∀ c : Dev Cert.Normalise.nD,
      r.2.mem ((c.tc : Thread Cert.Normalise.nD Cert.Normalise.τ).loc Cert.Normalise.main_arg0) = m ((c.tc : Thread Cert.Normalise.nD Cert.Normalise.τ).loc Cert.Normalise.main_arg0)
      ∧ r.2.mem ((c.tc : Thread Cert.Normalise.nD Cert.Normalise.τ).loc Cert.Normalise.main_arg1) = m ((c.tc : Thread Cert.Normalise.nD Cert.Normalise.τ).loc Cert.Normalise.main_arg1)
      ∧ r.2.mem ((c.tc : Thread Cert.Normalise.nD Cert.Normalise.τ).loc Cert.Normalise.main_arg2) = m ((c.tc : Thread Cert.Normalise.nD Cert.Normalise.τ).loc Cert.Normalise.main_arg2)
      ∧ r.2.mem ((c.tc : Thread Cert.Normalise.nD Cert.Normalise.τ).loc Cert.Normalise.main_arg3) = m ((c.tc : Thread Cert.Normalise.nD Cert.Normalise.τ).loc Cert.Normalise.main_arg3))
      ∧ r.2.sem = fun _ => 0)

def quiescent_NormaliseIdeal [hNormaliseIdeal : Cert.NormaliseIdeal.Facts] : Prop :=
  ∀ (m : (ℓ : Loc Cert.NormaliseIdeal.nD Cert.NormaliseIdeal.τ Cert.NormaliseIdeal.sig) → Buf (Elt Ideal) ℓ) (g : Dev Cert.NormaliseIdeal.nD → PrngReg), Pre_NormaliseIdeal m →
    θ_run (Cert.NormaliseIdeal.defs (F := Ideal)) (onTc (τ := Cert.NormaliseIdeal.τ) (Cert.NormaliseIdeal.main (F := Ideal))) ⟨m, fun _ => 0, g⟩ (fun r => (∀ c : Dev Cert.NormaliseIdeal.nD,
      r.2.mem ((c.tc : Thread Cert.NormaliseIdeal.nD Cert.NormaliseIdeal.τ).loc Cert.NormaliseIdeal.main_arg0) = m ((c.tc : Thread Cert.NormaliseIdeal.nD Cert.NormaliseIdeal.τ).loc Cert.NormaliseIdeal.main_arg0)
      ∧ r.2.mem ((c.tc : Thread Cert.NormaliseIdeal.nD Cert.NormaliseIdeal.τ).loc Cert.NormaliseIdeal.main_arg1) = m ((c.tc : Thread Cert.NormaliseIdeal.nD Cert.NormaliseIdeal.τ).loc Cert.NormaliseIdeal.main_arg1)
      ∧ r.2.mem ((c.tc : Thread Cert.NormaliseIdeal.nD Cert.NormaliseIdeal.τ).loc Cert.NormaliseIdeal.main_arg2) = m ((c.tc : Thread Cert.NormaliseIdeal.nD Cert.NormaliseIdeal.τ).loc Cert.NormaliseIdeal.main_arg2)
      ∧ r.2.mem ((c.tc : Thread Cert.NormaliseIdeal.nD Cert.NormaliseIdeal.τ).loc Cert.NormaliseIdeal.main_arg3) = m ((c.tc : Thread Cert.NormaliseIdeal.nD Cert.NormaliseIdeal.τ).loc Cert.NormaliseIdeal.main_arg3))
      ∧ r.2.sem = fun _ => 0)

def quiescent_NormalisationIdeal [hNormalisationIdeal : Cert.NormalisationIdeal.Facts] : Prop :=
  ∀ (m : (ℓ : Loc Cert.NormalisationIdeal.nD Cert.NormalisationIdeal.τ Cert.NormalisationIdeal.sig) → Buf (Elt Ideal) ℓ) (g : Dev Cert.NormalisationIdeal.nD → PrngReg), Pre_NormalisationIdeal m →
    θ_run (Cert.NormalisationIdeal.defs (F := Ideal)) (onTc (τ := Cert.NormalisationIdeal.τ) (Cert.NormalisationIdeal.main (F := Ideal))) ⟨m, fun _ => 0, g⟩ (fun r => (∀ c : Dev Cert.NormalisationIdeal.nD,
      r.2.mem ((c.tc : Thread Cert.NormalisationIdeal.nD Cert.NormalisationIdeal.τ).loc Cert.NormalisationIdeal.main_arg0) = m ((c.tc : Thread Cert.NormalisationIdeal.nD Cert.NormalisationIdeal.τ).loc Cert.NormalisationIdeal.main_arg0)
      ∧ r.2.mem ((c.tc : Thread Cert.NormalisationIdeal.nD Cert.NormalisationIdeal.τ).loc Cert.NormalisationIdeal.main_arg1) = m ((c.tc : Thread Cert.NormalisationIdeal.nD Cert.NormalisationIdeal.τ).loc Cert.NormalisationIdeal.main_arg1)
      ∧ r.2.mem ((c.tc : Thread Cert.NormalisationIdeal.nD Cert.NormalisationIdeal.τ).loc Cert.NormalisationIdeal.main_arg2) = m ((c.tc : Thread Cert.NormalisationIdeal.nD Cert.NormalisationIdeal.τ).loc Cert.NormalisationIdeal.main_arg2)
      ∧ r.2.mem ((c.tc : Thread Cert.NormalisationIdeal.nD Cert.NormalisationIdeal.τ).loc Cert.NormalisationIdeal.main_arg3) = m ((c.tc : Thread Cert.NormalisationIdeal.nD Cert.NormalisationIdeal.τ).loc Cert.NormalisationIdeal.main_arg3))
      ∧ r.2.sem = fun _ => 0)

def preserves_Kernel_KernelIdeal : Prop :=
  True

def algebraic_KernelIdeal_ReferenceIdeal_pre_asg_names_clusters [hKernelIdeal : Cert.KernelIdeal.Facts] [hReferenceIdeal : Cert.ReferenceIdeal.Facts] [hPre_asg_names_clusters : Cert.Pre_asg_names_clusters.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_asg_names_clusters m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Project_ProjectIdeal : Prop :=
  True

def algebraic_ProjectIdeal_ProjectionIdeal_pre_finite [hProjectIdeal : Cert.ProjectIdeal.Facts] [hProjectionIdeal : Cert.ProjectionIdeal.Facts] [hPre_finite : Cert.Pre_finite.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectionIdeal.nD Cert.ProjectionIdeal.τ Cert.ProjectionIdeal.sig) → Buf (Elt Ideal) ℓ) (g' : Dev Cert.ProjectionIdeal.nD → PrngReg), Pre_ProjectIdeal_finite m →
    (∀ c : Dev Cert.ProjectIdeal.nD,
      m' ((c.tc : Thread Cert.ProjectionIdeal.nD Cert.ProjectionIdeal.τ).loc Cert.ProjectionIdeal.main_arg0) = m ((c.tc : Thread Cert.ProjectIdeal.nD Cert.ProjectIdeal.τ).loc Cert.ProjectIdeal.main_arg0)
      ∧ m' ((c.tc : Thread Cert.ProjectionIdeal.nD Cert.ProjectionIdeal.τ).loc Cert.ProjectionIdeal.main_arg1) = m ((c.tc : Thread Cert.ProjectIdeal.nD Cert.ProjectIdeal.τ).loc Cert.ProjectIdeal.main_arg1)
      ∧ m' ((c.tc : Thread Cert.ProjectionIdeal.nD Cert.ProjectionIdeal.τ).loc Cert.ProjectionIdeal.main_arg2) = m ((c.tc : Thread Cert.ProjectIdeal.nD Cert.ProjectIdeal.τ).loc Cert.ProjectIdeal.main_arg2)) →
    ∃ (v0 : (c : Dev Cert.ProjectIdeal.nD) → Buf (Elt Ideal) ((c.tc : Thread Cert.ProjectIdeal.nD Cert.ProjectIdeal.τ).loc Cert.ProjectIdeal.main_v23)) (v1 : (c : Dev Cert.ProjectIdeal.nD) → Buf (Elt Ideal) ((c.tc : Thread Cert.ProjectIdeal.nD Cert.ProjectIdeal.τ).loc Cert.ProjectIdeal.main_v14)) (v2 : (c : Dev Cert.ProjectIdeal.nD) → Buf (Elt Ideal) ((c.tc : Thread Cert.ProjectIdeal.nD Cert.ProjectIdeal.τ).loc Cert.ProjectIdeal.main_v21)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v23) = v0 c
          ∧ r.2.mem ((c.tc : Thread Cert.ProjectIdeal.nD Cert.ProjectIdeal.τ).loc Cert.ProjectIdeal.main_v14) = v1 c
          ∧ r.2.mem ((c.tc : Thread Cert.ProjectIdeal.nD Cert.ProjectIdeal.τ).loc Cert.ProjectIdeal.main_v21) = v2 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2))
      ∧ θ_run (Cert.ProjectionIdeal.defs (F := Ideal)) (onTc (τ := Cert.ProjectionIdeal.τ) (Cert.ProjectionIdeal.main (F := Ideal))) ⟨m', fun _ => 0, g'⟩ (fun r => ∀ c : Dev Cert.ProjectionIdeal.nD,
          r.2.mem ((c.tc : Thread Cert.ProjectionIdeal.nD Cert.ProjectionIdeal.τ).loc Cert.ProjectionIdeal.main_v36) = v0 c
          ∧ r.2.mem ((c.tc : Thread Cert.ProjectionIdeal.nD Cert.ProjectionIdeal.τ).loc Cert.ProjectionIdeal.main_v39) = v1 c
          ∧ r.2.mem ((c.tc : Thread Cert.ProjectionIdeal.nD Cert.ProjectionIdeal.τ).loc Cert.ProjectionIdeal.main_v49) = v2 c
          ∧ r.2.mem ((c.tc : Thread Cert.ProjectionIdeal.nD Cert.ProjectionIdeal.τ).loc Cert.ProjectionIdeal.main_arg0) = m' ((c.tc : Thread Cert.ProjectionIdeal.nD Cert.ProjectionIdeal.τ).loc Cert.ProjectionIdeal.main_arg0)
          ∧ r.2.mem ((c.tc : Thread Cert.ProjectionIdeal.nD Cert.ProjectionIdeal.τ).loc Cert.ProjectionIdeal.main_arg1) = m' ((c.tc : Thread Cert.ProjectionIdeal.nD Cert.ProjectionIdeal.τ).loc Cert.ProjectionIdeal.main_arg1)
          ∧ r.2.mem ((c.tc : Thread Cert.ProjectionIdeal.nD Cert.ProjectionIdeal.τ).loc Cert.ProjectionIdeal.main_arg2) = m' ((c.tc : Thread Cert.ProjectionIdeal.nD Cert.ProjectionIdeal.τ).loc Cert.ProjectionIdeal.main_arg2))

def preserves_Normalise_NormaliseIdeal : Prop :=
  IdealRules.named_const.Statement Cert.NormaliseIdeal.κ "inv_27" .f32 0x3D17B426#32 ((27⁻¹ : ℝ) : EReal)

def algebraic_NormaliseIdeal_NormalisationIdeal [hNormaliseIdeal : Cert.NormaliseIdeal.Facts] [hNormalisationIdeal : Cert.NormalisationIdeal.Facts] : Prop :=
  ∀ (m : (ℓ : Loc Cert.NormaliseIdeal.nD Cert.NormaliseIdeal.τ Cert.NormaliseIdeal.sig) → Buf (Elt Ideal) ℓ) (g : Dev Cert.NormaliseIdeal.nD → PrngReg)
    (m' : (ℓ : Loc Cert.NormalisationIdeal.nD Cert.NormalisationIdeal.τ Cert.NormalisationIdeal.sig) → Buf (Elt Ideal) ℓ) (g' : Dev Cert.NormalisationIdeal.nD → PrngReg), Pre_NormaliseIdeal m →
    (∀ c : Dev Cert.NormaliseIdeal.nD,
      m' ((c.tc : Thread Cert.NormalisationIdeal.nD Cert.NormalisationIdeal.τ).loc Cert.NormalisationIdeal.main_arg0) = m ((c.tc : Thread Cert.NormaliseIdeal.nD Cert.NormaliseIdeal.τ).loc Cert.NormaliseIdeal.main_arg0)
      ∧ m' ((c.tc : Thread Cert.NormalisationIdeal.nD Cert.NormalisationIdeal.τ).loc Cert.NormalisationIdeal.main_arg1) = m ((c.tc : Thread Cert.NormaliseIdeal.nD Cert.NormaliseIdeal.τ).loc Cert.NormaliseIdeal.main_arg1)
      ∧ m' ((c.tc : Thread Cert.NormalisationIdeal.nD Cert.NormalisationIdeal.τ).loc Cert.NormalisationIdeal.main_arg2) = m ((c.tc : Thread Cert.NormaliseIdeal.nD Cert.NormaliseIdeal.τ).loc Cert.NormaliseIdeal.main_arg2)
      ∧ m' ((c.tc : Thread Cert.NormalisationIdeal.nD Cert.NormalisationIdeal.τ).loc Cert.NormalisationIdeal.main_arg3) = m ((c.tc : Thread Cert.NormaliseIdeal.nD Cert.NormaliseIdeal.τ).loc Cert.NormaliseIdeal.main_arg3)) →
    ∃ (v0 : (c : Dev Cert.NormaliseIdeal.nD) → Buf (Elt Ideal) ((c.tc : Thread Cert.NormaliseIdeal.nD Cert.NormaliseIdeal.τ).loc Cert.NormaliseIdeal.main_v6_0)) (v1 : (c : Dev Cert.NormaliseIdeal.nD) → Buf (Elt Ideal) ((c.tc : Thread Cert.NormaliseIdeal.nD Cert.NormaliseIdeal.τ).loc Cert.NormaliseIdeal.main_v6_1)),
      θ_run (Cert.NormaliseIdeal.defs (F := Ideal)) (onTc (τ := Cert.NormaliseIdeal.τ) (Cert.NormaliseIdeal.main (F := Ideal))) ⟨m, fun _ => 0, g⟩ (fun r => ∀ c : Dev Cert.NormaliseIdeal.nD,
          r.2.mem ((c.tc : Thread Cert.NormaliseIdeal.nD Cert.NormaliseIdeal.τ).loc Cert.NormaliseIdeal.main_v6_0) = v0 c
          ∧ r.2.mem ((c.tc : Thread Cert.NormaliseIdeal.nD Cert.NormaliseIdeal.τ).loc Cert.NormaliseIdeal.main_v6_1) = v1 c
          ∧ r.2.mem ((c.tc : Thread Cert.NormaliseIdeal.nD Cert.NormaliseIdeal.τ).loc Cert.NormaliseIdeal.main_arg0) = m ((c.tc : Thread Cert.NormaliseIdeal.nD Cert.NormaliseIdeal.τ).loc Cert.NormaliseIdeal.main_arg0)
          ∧ r.2.mem ((c.tc : Thread Cert.NormaliseIdeal.nD Cert.NormaliseIdeal.τ).loc Cert.NormaliseIdeal.main_arg1) = m ((c.tc : Thread Cert.NormaliseIdeal.nD Cert.NormaliseIdeal.τ).loc Cert.NormaliseIdeal.main_arg1)
          ∧ r.2.mem ((c.tc : Thread Cert.NormaliseIdeal.nD Cert.NormaliseIdeal.τ).loc Cert.NormaliseIdeal.main_arg2) = m ((c.tc : Thread Cert.NormaliseIdeal.nD Cert.NormaliseIdeal.τ).loc Cert.NormaliseIdeal.main_arg2)
          ∧ r.2.mem ((c.tc : Thread Cert.NormaliseIdeal.nD Cert.NormaliseIdeal.τ).loc Cert.NormaliseIdeal.main_arg3) = m ((c.tc : Thread Cert.NormaliseIdeal.nD Cert.NormaliseIdeal.τ).loc Cert.NormaliseIdeal.main_arg3))
      ∧ θ_run (Cert.NormalisationIdeal.defs (F := Ideal)) (onTc (τ := Cert.NormalisationIdeal.τ) (Cert.NormalisationIdeal.main (F := Ideal))) ⟨m', fun _ => 0, g'⟩ (fun r => ∀ c : Dev Cert.NormalisationIdeal.nD,
          r.2.mem ((c.tc : Thread Cert.NormalisationIdeal.nD Cert.NormalisationIdeal.τ).loc Cert.NormalisationIdeal.main_v77) = v0 c
          ∧ r.2.mem ((c.tc : Thread Cert.NormalisationIdeal.nD Cert.NormalisationIdeal.τ).loc Cert.NormalisationIdeal.main_v79) = v1 c
          ∧ r.2.mem ((c.tc : Thread Cert.NormalisationIdeal.nD Cert.NormalisationIdeal.τ).loc Cert.NormalisationIdeal.main_arg0) = m' ((c.tc : Thread Cert.NormalisationIdeal.nD Cert.NormalisationIdeal.τ).loc Cert.NormalisationIdeal.main_arg0)
          ∧ r.2.mem ((c.tc : Thread Cert.NormalisationIdeal.nD Cert.NormalisationIdeal.τ).loc Cert.NormalisationIdeal.main_arg1) = m' ((c.tc : Thread Cert.NormalisationIdeal.nD Cert.NormalisationIdeal.τ).loc Cert.NormalisationIdeal.main_arg1)
          ∧ r.2.mem ((c.tc : Thread Cert.NormalisationIdeal.nD Cert.NormalisationIdeal.τ).loc Cert.NormalisationIdeal.main_arg2) = m' ((c.tc : Thread Cert.NormalisationIdeal.nD Cert.NormalisationIdeal.τ).loc Cert.NormalisationIdeal.main_arg2)
          ∧ r.2.mem ((c.tc : Thread Cert.NormalisationIdeal.nD Cert.NormalisationIdeal.τ).loc Cert.NormalisationIdeal.main_arg3) = m' ((c.tc : Thread Cert.NormalisationIdeal.nD Cert.NormalisationIdeal.τ).loc Cert.NormalisationIdeal.main_arg3))

def Claim : Prop :=
  ∃ (hKernel : Cert.Kernel.Facts) (hKernelIdeal : Cert.KernelIdeal.Facts) (hReferenceIdeal : Cert.ReferenceIdeal.Facts) (hProject : Cert.Project.Facts) (hProjectIdeal : Cert.ProjectIdeal.Facts) (hProjectionIdeal : Cert.ProjectionIdeal.Facts) (hNormalise : Cert.Normalise.Facts) (hNormaliseIdeal : Cert.NormaliseIdeal.Facts) (hNormalisationIdeal : Cert.NormalisationIdeal.Facts) (hPre_asg_names_clusters : Cert.Pre_asg_names_clusters.Facts) (hPre_finite : Cert.Pre_finite.Facts),
    quiescent_Kernel (hKernel := hKernel)
    ∧ quiescent_KernelIdeal (hKernelIdeal := hKernelIdeal)
    ∧ quiescent_KernelIdeal_pre_asg_names_clusters (hKernelIdeal := hKernelIdeal) (hPre_asg_names_clusters := hPre_asg_names_clusters)
    ∧ quiescent_ReferenceIdeal (hReferenceIdeal := hReferenceIdeal)
    ∧ quiescent_ReferenceIdeal_pre_asg_names_clusters (hReferenceIdeal := hReferenceIdeal) (hPre_asg_names_clusters := hPre_asg_names_clusters)
    ∧ quiescent_Project (hProject := hProject)
    ∧ quiescent_ProjectIdeal (hProjectIdeal := hProjectIdeal)
    ∧ quiescent_ProjectIdeal_pre_finite (hProjectIdeal := hProjectIdeal) (hPre_finite := hPre_finite)
    ∧ quiescent_ProjectionIdeal (hProjectionIdeal := hProjectionIdeal)
    ∧ quiescent_ProjectionIdeal_pre_finite (hProjectionIdeal := hProjectionIdeal) (hPre_finite := hPre_finite)
    ∧ quiescent_Normalise (hNormalise := hNormalise)
    ∧ quiescent_NormaliseIdeal (hNormaliseIdeal := hNormaliseIdeal)
    ∧ quiescent_NormalisationIdeal (hNormalisationIdeal := hNormalisationIdeal)
    ∧ preserves_Kernel_KernelIdeal
    ∧ algebraic_KernelIdeal_ReferenceIdeal_pre_asg_names_clusters (hKernelIdeal := hKernelIdeal) (hReferenceIdeal := hReferenceIdeal) (hPre_asg_names_clusters := hPre_asg_names_clusters)
    ∧ preserves_Project_ProjectIdeal
    ∧ algebraic_ProjectIdeal_ProjectionIdeal_pre_finite (hProjectIdeal := hProjectIdeal) (hProjectionIdeal := hProjectionIdeal) (hPre_finite := hPre_finite)
    ∧ preserves_Normalise_NormaliseIdeal
    ∧ algebraic_NormaliseIdeal_NormalisationIdeal (hNormaliseIdeal := hNormaliseIdeal) (hNormalisationIdeal := hNormalisationIdeal)
-- ==== Pre_asg_names_clusters.lean ====
abbrev S64x16x4096 : Shape := ⟨3, ![64, 16, 4096]⟩
abbrev S64x4096 : Shape := ⟨2, ![64, 4096]⟩
abbrev S27x4 : Shape := ⟨2, ![27, 4]⟩
abbrev S16x4 : Shape := ⟨2, ![16, 4]⟩
abbrev S16x16x27 : Shape := ⟨3, ![16, 16, 27]⟩
abbrev S1x16x64x64x64 : Shape := ⟨5, ![1, 16, 64, 64, 64]⟩
abbrev S_ : Shape := ⟨0, ![]⟩

class Facts : Prop where
  bcast_S_S64x4096 : S_.BroadcastsInDim S64x4096 (![] : Fin 0 → Fin S64x4096.rank)

variable [Facts]

def fn {F : FTy → Type} [FloatOps F] (main_arg0 : FVec F S64x16x4096 .f32) (main_arg1 : IVec S64x4096 32) (main_arg2 : FVec F S27x4 .f32) (main_arg3 : FVec F S16x4 .f32) (main_arg4 : FVec F S16x16x27 .f32) (main_arg5 : FVec F S1x16x64x64x64 .f32) (main_arg6 : FVec F S_ .f32) : IVec S64x4096 1 :=
  let main_c : IVec S_ 32 := constantI S_ 32 0#32
  let main_v0 : IVec S64x4096 32 := broadcastInDim S64x4096 ![] bcast_S_S64x4096 main_c
  let main_v1 : IVec S64x4096 1 := cmpi .sge main_arg1 main_v0
  let main_c_0 : IVec S_ 32 := constantI S_ 32 4#32
  let main_v2 : IVec S64x4096 32 := broadcastInDim S64x4096 ![] bcast_S_S64x4096 main_c_0
  let main_v3 : IVec S64x4096 1 := cmpi .slt main_arg1 main_v2
  let main_v4 : IVec S64x4096 1 := andi main_v1 main_v3
  main_v4
-- ==== Pre_finite.lean ====
abbrev S1x16x64x64x64 : Shape := ⟨5, ![1, 16, 64, 64, 64]⟩
abbrev S16x16x3x3x3 : Shape := ⟨5, ![16, 16, 3, 3, 3]⟩
abbrev S16 : Shape := ⟨1, ![16]⟩
abbrev S_ : Shape := ⟨0, ![]⟩

class Facts : Prop where
  bcast_S_S1x16x64x64x64 : S_.BroadcastsInDim S1x16x64x64x64 (![] : Fin 0 → Fin S1x16x64x64x64.rank)
  reducesTo_S1x16x64x64x64_S_d0_1_2_3_4 : S1x16x64x64x64.ReducesTo [0, 1, 2, 3, 4] S_
  h_S_ : 0 < S_.numel
  bcast_S_S16x16x3x3x3 : S_.BroadcastsInDim S16x16x3x3x3 (![] : Fin 0 → Fin S16x16x3x3x3.rank)
  reducesTo_S16x16x3x3x3_S_d0_1_2_3_4 : S16x16x3x3x3.ReducesTo [0, 1, 2, 3, 4] S_
  bcast_S_S16 : S_.BroadcastsInDim S16 (![] : Fin 0 → Fin S16.rank)
  reducesTo_S16_S_d0 : S16.ReducesTo [0] S_

variable [Facts]

def fn {F : FTy → Type} [FloatOps F] (main_arg0 : FVec F S1x16x64x64x64 .f32) (main_arg1 : FVec F S16x16x3x3x3 .f32) (main_arg2 : FVec F S16 .f32) : IVec S_ 1 :=
  let main_v0 : FVec F S1x16x64x64x64 .f32 := Host.absf main_arg0
  let main_cst : FVec F S_ .f32 := constant S_ .f32 0x7F800000#32
  let main_v1 : FVec F S1x16x64x64x64 .f32 := broadcastInDim S1x16x64x64x64 ![] bcast_S_S1x16x64x64x64 main_cst
  let main_v2 : IVec S1x16x64x64x64 1 := cmpf .olt main_v0 main_v1
  let main_c : IVec S_ 1 := constantI S_ 1 1#1
  let main_v3 : IVec S_ 1 := (fun x v => Host.reduce IntOp.andi x v reducesTo_S1x16x64x64x64_S_d0_1_2_3_4 h_S_) main_v2 main_c
  let main_v4 : FVec F S16x16x3x3x3 .f32 := Host.absf main_arg1
  let main_cst_0 : FVec F S_ .f32 := constant S_ .f32 0x7F800000#32
  let main_v5 : FVec F S16x16x3x3x3 .f32 := broadcastInDim S16x16x3x3x3 ![] bcast_S_S16x16x3x3x3 main_cst_0
  let main_v6 : IVec S16x16x3x3x3 1 := cmpf .olt main_v4 main_v5
  let main_c_1 : IVec S_ 1 := constantI S_ 1 1#1
  let main_v7 : IVec S_ 1 := (fun x v => Host.reduce IntOp.andi x v reducesTo_S16x16x3x3x3_S_d0_1_2_3_4 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  main_v13
-- ==== Kernel.lean ====
abbrev S64x16x4096 : Shape := ⟨3, ![64, 16, 4096]⟩
abbrev S64x4096 : Shape := ⟨2, ![64, 4096]⟩
abbrev S27x4 : Shape := ⟨2, ![27, 4]⟩
abbrev S16x4 : Shape := ⟨2, ![16, 4]⟩
abbrev S16x16x27 : Shape := ⟨3, ![16, 16, 27]⟩
abbrev S1x16x64x64x64 : Shape := ⟨5, ![1, 16, 64, 64, 64]⟩
abbrev S_ : Shape := ⟨0, ![]⟩
abbrev S16x262144 : Shape := ⟨2, ![16, 262144]⟩
abbrev S16x64x4096 : Shape := ⟨3, ![16, 64, 4096]⟩
abbrev S16x278528 : Shape := ⟨2, ![16, 278528]⟩
abbrev S16x27x16 : Shape := ⟨3, ![16, 27, 16]⟩
abbrev S16x432 : Shape := ⟨2, ![16, 432]⟩
abbrev S64x1x4096 : Shape := ⟨3, ![64, 1, 4096]⟩
abbrev S1x1 : Shape := ⟨2, ![1, 1]⟩
abbrev S1x1x4096 : Shape := ⟨3, ![1, 1, 4096]⟩
abbrev S1x16x4096 : Shape := ⟨3, ![1, 16, 4096]⟩
abbrev S1x4096 : Shape := ⟨2, ![1, 4096]⟩
abbrev S27x1 : Shape := ⟨2, ![27, 1]⟩
abbrev S27x4096 : Shape := ⟨2, ![27, 4096]⟩
abbrev S16x1 : Shape := ⟨2, ![16, 1]⟩
abbrev S16x4096 : Shape := ⟨2, ![16, 4096]⟩
abbrev S16x12544 : Shape := ⟨2, ![16, 12544]⟩
abbrev S432x4096 : Shape := ⟨2, ![432, 4096]⟩

abbrev nBuf : Space → Nat
  | .hbm => 22
  | .vmem => 11
  | .smem => 0
  | _ => 0

abbrev bufTy : (tb : Table) → Fin (tcTables nBuf tb) → BufTy
  | .hbm, ⟨0, _⟩ => ⟨S64x16x4096, .f32⟩
  | .hbm, ⟨1, _⟩ => ⟨S64x4096, .i32⟩
  | .hbm, ⟨2, _⟩ => ⟨S27x4, .f32⟩
  | .hbm, ⟨3, _⟩ => ⟨S16x4, .f32⟩
  | .hbm, ⟨4, _⟩ => ⟨S16x16x27, .f32⟩
  | .hbm, ⟨5, _⟩ => ⟨S1x16x64x64x64, .f32⟩
  | .hbm, ⟨6, _⟩ => ⟨S_, .f32⟩
  | .hbm, ⟨7, _⟩ => ⟨S16x262144, .f32⟩
  | .hbm, ⟨8, _⟩ => ⟨S16x64x4096, .f32⟩
  | .hbm, ⟨9, _⟩ => ⟨S16x262144, .f32⟩
  | .hbm, ⟨10, _⟩ => ⟨S_, .i32⟩
  | .hbm, ⟨11, _⟩ => ⟨S_, .f32⟩
  | .hbm, ⟨12, _⟩ => ⟨S16x278528, .f32⟩
  | .hbm, ⟨13, _⟩ => ⟨S16x27x16, .f32⟩
  | .hbm, ⟨14, _⟩ => ⟨S16x432, .f32⟩
  | .hbm, ⟨15, _⟩ => ⟨S64x1x4096, .i32⟩
  | .hbm, ⟨16, _⟩ => ⟨S16x64x4096, .f32⟩
  | .hbm, ⟨17, _⟩ => ⟨S64x16x4096, .f32⟩
  | .hbm, ⟨18, _⟩ => ⟨S1x1, .f32⟩
  | .hbm, ⟨19, _⟩ => ⟨S64x16x4096, .f32⟩
  | .hbm, ⟨20, _⟩ => ⟨S16x64x4096, .f32⟩
  | .hbm, ⟨21, _⟩ => ⟨S1x16x64x64x64, .f32⟩
  | .local _ .vmem, ⟨0, _⟩ => ⟨S16x278528, .f32⟩
  | .local _ .vmem, ⟨1, _⟩ => ⟨S1x1x4096, .i32⟩
  | .local _ .vmem, ⟨2, _⟩ => ⟨S1x1x4096, .i32⟩
  | .local _ .vmem, ⟨3, _⟩ => ⟨S27x4, .f32⟩
  | .local _ .vmem, ⟨4, _⟩ => ⟨S16x4, .f32⟩
  | .local _ .vmem, ⟨5, _⟩ => ⟨S16x432, .f32⟩
  | .local _ .vmem, ⟨6, _⟩ => ⟨S1x16x4096, .f32⟩
  | .local _ .vmem, ⟨7, _⟩ => ⟨S1x16x4096, .f32⟩
  | .local _ .vmem, ⟨8, _⟩ => ⟨S1x1, .f32⟩
  | .local _ .vmem, ⟨9, _⟩ => ⟨S1x16x4096, .f32⟩
  | .local _ .vmem, ⟨10, _⟩ => ⟨S1x16x4096, .f32⟩
  | _, _ => ⟨S64x16x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![64], ![false]⟩

def k0_off1 (i : grid0.Coords) : Fin 2 → Nat :=
  let c0_56 : Index := 0#32
  let c8192_i32 : BitVec 32 := 8192#32
  let arg0 : BitVec 32 := BitVec.ofNat 32 (i 0).val
  let c4096_i32 : BitVec 32 := 4096#32
  let v0 : BitVec 32 := Scalar.muli arg0 c4096_i32
  let v1 : BitVec 32 := Scalar.addi c8192_i32 v0
  let c4224_i32 : BitVec 32 := 4224#32
  let v142 : BitVec 32 := Scalar.subi v1 c4224_i32
  let v143 : Index := Scalar.indexCast v142
  ![0, v143.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S16x278528 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S27x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x432 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x16x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x16x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S64x16x4096 : Shape := ⟨3, ![64, 16, 4096]⟩
abbrev S64x4096 : Shape := ⟨2, ![64, 4096]⟩
abbrev S27x4 : Shape := ⟨2, ![27, 4]⟩
abbrev S16x4 : Shape := ⟨2, ![16, 4]⟩
abbrev S16x16x27 : Shape := ⟨3, ![16, 16, 27]⟩
abbrev S1x16x64x64x64 : Shape := ⟨5, ![1, 16, 64, 64, 64]⟩
abbrev S_ : Shape := ⟨0, ![]⟩
abbrev S16x64x4096 : Shape := ⟨3, ![16, 64, 4096]⟩
abbrev S1x16x66x66x66 : Shape := ⟨5, ![1, 16, 66, 66, 66]⟩
abbrev S1x16x1x64x64x64 : Shape := ⟨6, ![1, 16, 1, 64, 64, 64]⟩
abbrev S1x16x16x64x64x64 : Shape := ⟨6, ![1, 16, 16, 64, 64, 64]⟩
abbrev S1x16x11x64x64x64 : Shape := ⟨6, ![1, 16, 11, 64, 64, 64]⟩
abbrev S1x16x27x64x64x64 : Shape := ⟨6, ![1, 16, 27, 64, 64, 64]⟩
abbrev S1x16x27x262144 : Shape := ⟨4, ![1, 16, 27, 262144]⟩
abbrev S262144 : Shape := ⟨1, ![262144]⟩
abbrev S4x27 : Shape := ⟨2, ![4, 27]⟩
abbrev S262144x1 : Shape := ⟨2, ![262144, 1]⟩
abbrev S262144x27 : Shape := ⟨2, ![262144, 27]⟩
abbrev S27x262144 : Shape := ⟨2, ![27, 262144]⟩
abbrev S1x1x27x262144 : Shape := ⟨4, ![1, 1, 27, 262144]⟩
abbrev S16x1x262144 : Shape := ⟨3, ![16, 1, 262144]⟩
abbrev S1x16x262144 : Shape := ⟨3, ![1, 16, 262144]⟩
abbrev S4x16 : Shape := ⟨2, ![4, 16]⟩
abbrev S262144x16 : Shape := ⟨2, ![262144, 16]⟩
abbrev S16x262144 : Shape := ⟨2, ![16, 262144]⟩

abbrev nBuf : Space → Nat
  | .hbm => 108
  | .vmem => 0
  | .smem => 0
  | _ => 0

abbrev bufTy : (tb : Table) → Fin (tcTables nBuf tb) → BufTy
  | .hbm, ⟨0, _⟩ => ⟨S64x16x4096, .f32⟩
  | .hbm, ⟨1, _⟩ => ⟨S64x4096, .i32⟩
  | .hbm, ⟨2, _⟩ => ⟨S27x4, .f32⟩
  | .hbm, ⟨3, _⟩ => ⟨S16x4, .f32⟩
  | .hbm, ⟨4, _⟩ => ⟨S16x16x27, .f32⟩
  | .hbm, ⟨5, _⟩ => ⟨S1x16x64x64x64, .f32⟩
  | .hbm, ⟨6, _⟩ => ⟨S_, .f32⟩
  | .hbm, ⟨7, _⟩ => ⟨S16x64x4096, .f32⟩
  | .hbm, ⟨8, _⟩ => ⟨S1x16x64x64x64, .f32⟩
  | .hbm, ⟨9, _⟩ => ⟨S_, .i32⟩
  | .hbm, ⟨10, _⟩ => ⟨S_, .f32⟩
  | .hbm, ⟨11, _⟩ => ⟨S1x16x66x66x66, .f32⟩
  | .hbm, ⟨12, _⟩ => ⟨S1x16x64x64x64, .f32⟩
  | .hbm, ⟨13, _⟩ => ⟨S1x16x64x64x64, .f32⟩
  | .hbm, ⟨14, _⟩ => ⟨S1x16x64x64x64, .f32⟩
  | .hbm, ⟨15, _⟩ => ⟨S1x16x64x64x64, .f32⟩
  | .hbm, ⟨16, _⟩ => ⟨S1x16x64x64x64, .f32⟩
  | .hbm, ⟨17, _⟩ => ⟨S1x16x64x64x64, .f32⟩
  | .hbm, ⟨18, _⟩ => ⟨S1x16x64x64x64, .f32⟩
  | .hbm, ⟨19, _⟩ => ⟨S1x16x64x64x64, .f32⟩
  | .hbm, ⟨20, _⟩ => ⟨S1x16x64x64x64, .f32⟩
  | .hbm, ⟨21, _⟩ => ⟨S1x16x64x64x64, .f32⟩
  | .hbm, ⟨22, _⟩ => ⟨S1x16x64x64x64, .f32⟩
  | .hbm, ⟨23, _⟩ => ⟨S1x16x64x64x64, .f32⟩
  | .hbm, ⟨24, _⟩ => ⟨S1x16x64x64x64, .f32⟩
  | .hbm, ⟨25, _⟩ => ⟨S1x16x64x64x64, .f32⟩
  | .hbm, ⟨26, _⟩ => ⟨S1x16x64x64x64, .f32⟩
  | .hbm, ⟨27, _⟩ => ⟨S1x16x64x64x64, .f32⟩
  | .hbm, ⟨28, _⟩ => ⟨S1x16x64x64x64, .f32⟩
  | .hbm, ⟨29, _⟩ => ⟨S1x16x64x64x64, .f32⟩
  | .hbm, ⟨30, _⟩ => ⟨S1x16x64x64x64, .f32⟩
  | .hbm, ⟨31, _⟩ => ⟨S1x16x64x64x64, .f32⟩
  | .hbm, ⟨32, _⟩ => ⟨S1x16x64x64x64, .f32⟩
  | .hbm, ⟨33, _⟩ => ⟨S1x16x64x64x64, .f32⟩
  | .hbm, ⟨34, _⟩ => ⟨S1x16x64x64x64, .f32⟩
  | .hbm, ⟨35, _⟩ => ⟨S1x16x64x64x64, .f32⟩
  | .hbm, ⟨36, _⟩ => ⟨S1x16x64x64x64, .f32⟩
  | .hbm, ⟨37, _⟩ => ⟨S1x16x64x64x64, .f32⟩
  | .hbm, ⟨38, _⟩ => ⟨S1x16x64x64x64, .f32⟩
  | .hbm, ⟨39, _⟩ => ⟨S1x16x1x64x64x64, .f32⟩
  | .hbm, ⟨40, _⟩ => ⟨S1x16x1x64x64x64, .f32⟩
  | .hbm, ⟨41, _⟩ => ⟨S1x16x1x64x64x64, .f32⟩
  | .hbm, ⟨42, _⟩ => ⟨S1x16x1x64x64x64, .f32⟩
  | .hbm, ⟨43, _⟩ => ⟨S1x16x1x64x64x64, .f32⟩
  | .hbm, ⟨44, _⟩ => ⟨S1x16x1x64x64x64, .f32⟩
  | .hbm, ⟨45, _⟩ => ⟨S1x16x1x64x64x64, .f32⟩
  | .hbm, ⟨46, _⟩ => ⟨S1x16x1x64x64x64, .f32⟩
  | .hbm, ⟨47, _⟩ => ⟨S1x16x1x64x64x64, .f32⟩
  | .hbm, ⟨48, _⟩ => ⟨S1x16x1x64x64x64, .f32⟩
  | .hbm, ⟨49, _⟩ => ⟨S1x16x1x64x64x64, .f32⟩
  | .hbm, ⟨50, _⟩ => ⟨S1x16x1x64x64x64, .f32⟩
  | .hbm, ⟨51, _⟩ => ⟨S1x16x1x64x64x64, .f32⟩
  | .hbm, ⟨52, _⟩ => ⟨S1x16x1x64x64x64, .f32⟩
  | .hbm, ⟨53, _⟩ => ⟨S1x16x1x64x64x64, .f32⟩
  | .hbm, ⟨54, _⟩ => ⟨S1x16x1x64x64x64, .f32⟩
  | .hbm, ⟨55, _⟩ => ⟨S1x16x1x64x64x64, .f32⟩
  | .hbm, ⟨56, _⟩ => ⟨S1x16x1x64x64x64, .f32⟩
  | .hbm, ⟨57, _⟩ => ⟨S1x16x1x64x64x64, .f32⟩
  | .hbm, ⟨58, _⟩ => ⟨S1x16x1x64x64x64, .f32⟩
  | .hbm, ⟨59, _⟩ => ⟨S1x16x1x64x64x64, .f32⟩
  | .hbm, ⟨60, _⟩ => ⟨S1x16x1x64x64x64, .f32⟩
  | .hbm, ⟨61, _⟩ => ⟨S1x16x1x64x64x64, .f32⟩
  | .hbm, ⟨62, _⟩ => ⟨S1x16x1x64x64x64, .f32⟩
  | .hbm, ⟨63, _⟩ => ⟨S1x16x1x64x64x64, .f32⟩
  | .hbm, ⟨64, _⟩ => ⟨S1x16x1x64x64x64, .f32⟩
  | .hbm, ⟨65, _⟩ => ⟨S1x16x1x64x64x64, .f32⟩
  | .hbm, ⟨66, _⟩ => ⟨S1x16x16x64x64x64, .f32⟩
  | .hbm, ⟨67, _⟩ => ⟨S1x16x11x64x64x64, .f32⟩
  | .hbm, ⟨68, _⟩ => ⟨S1x16x27x64x64x64, .f32⟩
  | .hbm, ⟨69, _⟩ => ⟨S1x16x27x262144, .f32⟩
  | .hbm, ⟨70, _⟩ => ⟨S262144, .i32⟩
  | .hbm, ⟨71, _⟩ => ⟨S4x27, .f32⟩
  | .hbm, ⟨72, _⟩ => ⟨S_, .i32⟩
  | .hbm, ⟨73, _⟩ => ⟨S262144, .i32⟩
  | .hbm, ⟨74, _⟩ => ⟨S262144, .i1⟩
  | .hbm, ⟨75, _⟩ => ⟨S_, .i32⟩
  | .hbm, ⟨76, _⟩ => ⟨S262144, .i32⟩
  | .hbm, ⟨77, _⟩ => ⟨S262144, .i32⟩
  | .hbm, ⟨78, _⟩ => ⟨S262144, .i32⟩
  | .hbm, ⟨79, _⟩ => ⟨S262144x1, .i32⟩
  | .hbm, ⟨80, _⟩ => ⟨S262144x27, .f32⟩
  | .hbm, ⟨81, _⟩ => ⟨S27x262144, .f32⟩
  | .hbm, ⟨82, _⟩ => ⟨S1x1x27x262144, .f32⟩
  | .hbm, ⟨83, _⟩ => ⟨S1x16x27x262144, .f32⟩
  | .hbm, ⟨84, _⟩ => ⟨S1x16x27x262144, .f32⟩
  | .hbm, ⟨85, _⟩ => ⟨S16x1x262144, .f32⟩
  | .hbm, ⟨86, _⟩ => ⟨S1x16x262144, .f32⟩
  | .hbm, ⟨87, _⟩ => ⟨S4x16, .f32⟩
  | .hbm, ⟨88, _⟩ => ⟨S_, .i32⟩
  | .hbm, ⟨89, _⟩ => ⟨S262144, .i32⟩
  | .hbm, ⟨90, _⟩ => ⟨S262144, .i1⟩
  | .hbm, ⟨91, _⟩ => ⟨S_, .i32⟩
  | .hbm, ⟨92, _⟩ => ⟨S262144, .i32⟩
  | .hbm, ⟨93, _⟩ => ⟨S262144, .i32⟩
  | .hbm, ⟨94, _⟩ => ⟨S262144, .i32⟩
  | .hbm, ⟨95, _⟩ => ⟨S262144x1, .i32⟩
  | .hbm, ⟨96, _⟩ => ⟨S262144x16, .f32⟩
  | .hbm, ⟨97, _⟩ => ⟨S16x262144, .f32⟩
  | .hbm, ⟨98, _⟩ => ⟨S1x16x262144, .f32⟩
  | .hbm, ⟨99, _⟩ => ⟨S1x16x262144, .f32⟩
  | .hbm, ⟨100, _⟩ => ⟨S1x16x64x64x64, .f32⟩
  | .hbm, ⟨101, _⟩ => ⟨S_, .f32⟩
  | .hbm, ⟨102, _⟩ => ⟨S1x16x64x64x64, .f32⟩
  | .hbm, ⟨103, _⟩ => ⟨S1x16x64x64x64, .i1⟩
  | .hbm, ⟨104, _⟩ => ⟨S1x16x64x64x64, .f32⟩
  | .hbm, ⟨105, _⟩ => ⟨S1x16x64x64x64, .f32⟩
  | .hbm, ⟨106, _⟩ => ⟨S1x16x64x64x64, .f32⟩
  | .hbm, ⟨107, _⟩ => ⟨S1x16x64x64x64, .f32⟩
  | _, _ => ⟨S64x16x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_c_0 : Ref sig .tc := ⟨.hbm, 72, rfl⟩
abbrev main_v63 : Ref sig .tc := ⟨.hbm, 73, rfl⟩
abbrev main_v64 : Ref sig .tc := ⟨.hbm, 74, rfl⟩
abbrev main_c_1 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_c_2 : Ref sig .tc := ⟨.hbm, 88, rfl⟩
abbrev main_v77 : Ref sig .tc := ⟨.hbm, 89, rfl⟩
abbrev main_v78 : Ref sig .tc := ⟨.hbm, 90, rfl⟩
abbrev main_c_3 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_cst : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩

abbrev nD : Nat := 1
abbrev τ : Topo := Topo.v7x

variable {F : FTy → Type} [FloatOps F]
-- ==== Project.lean ====
abbrev S1x16x64x64x64 : Shape := ⟨5, ![1, 16, 64, 64, 64]⟩
abbrev S16x16x3x3x3 : Shape := ⟨5, ![16, 16, 3, 3, 3]⟩
abbrev S16 : Shape := ⟨1, ![16]⟩
abbrev S16x262144 : Shape := ⟨2, ![16, 262144]⟩
abbrev S_ : Shape := ⟨0, ![]⟩
abbrev S16x278528 : Shape := ⟨2, ![16, 278528]⟩
abbrev S16x16x27 : Shape := ⟨3, ![16, 16, 27]⟩
abbrev S16x27x16 : Shape := ⟨3, ![16, 27, 16]⟩
abbrev S16x432 : Shape := ⟨2, ![16, 432]⟩
abbrev S16x1 : Shape := ⟨2, ![16, 1]⟩
abbrev S64x16x4096 : Shape := ⟨3, ![64, 16, 4096]⟩
abbrev S64x16x2 : Shape := ⟨3, ![64, 16, 2]⟩
abbrev S1x16x4096 : Shape := ⟨3, ![1, 16, 4096]⟩
abbrev S1x16x2 : Shape := ⟨3, ![1, 16, 2]⟩
abbrev S1x4096 : Shape := ⟨2, ![1, 4096]⟩
abbrev S16x12544 : Shape := ⟨2, ![16, 12544]⟩
abbrev S16x4096 : Shape := ⟨2, ![16, 4096]⟩
abbrev S432x4096 : Shape := ⟨2, ![432, 4096]⟩
abbrev S1x16x1 : Shape := ⟨3, ![1, 16, 1]⟩
abbrev S64x16x1 : Shape := ⟨3, ![64, 16, 1]⟩
abbrev S64x16 : Shape := ⟨2, ![64, 16]⟩
abbrev S16x64x4096 : Shape := ⟨3, ![16, 64, 4096]⟩

abbrev nBuf : Space → Nat
  | .hbm => 35
  | .vmem => 7
  | .smem => 0
  | _ => 0

abbrev bufTy : (tb : Table) → Fin (tcTables nBuf tb) → BufTy
  | .hbm, ⟨0, _⟩ => ⟨S1x16x64x64x64, .f32⟩
  | .hbm, ⟨1, _⟩ => ⟨S16x16x3x3x3, .f32⟩
  | .hbm, ⟨2, _⟩ => ⟨S16, .f32⟩
  | .hbm, ⟨3, _⟩ => ⟨S16x262144, .f32⟩
  | .hbm, ⟨4, _⟩ => ⟨S_, .i32⟩
  | .hbm, ⟨5, _⟩ => ⟨S_, .f32⟩
  | .hbm, ⟨6, _⟩ => ⟨S16x278528, .f32⟩
  | .hbm, ⟨7, _⟩ => ⟨S16x16x27, .f32⟩
  | .hbm, ⟨8, _⟩ => ⟨S16x27x16, .f32⟩
  | .hbm, ⟨9, _⟩ => ⟨S16x432, .f32⟩
  | .hbm, ⟨10, _⟩ => ⟨S16x1, .f32⟩
  | .hbm, ⟨11, _⟩ => ⟨S64x16x4096, .f32⟩
  | .hbm, ⟨12, _⟩ => ⟨S64x16x2, .f32⟩
  | .hbm, ⟨13, _⟩ => ⟨S64x16x1, .f32⟩
  | .hbm, ⟨14, _⟩ => ⟨S64x16, .f32⟩
  | .hbm, ⟨15, _⟩ => ⟨S_, .f32⟩
  | .hbm, ⟨16, _⟩ => ⟨S16, .f32⟩
  | .hbm, ⟨17, _⟩ => ⟨S64x16x1, .f32⟩
  | .hbm, ⟨18, _⟩ => ⟨S64x16, .f32⟩
  | .hbm, ⟨19, _⟩ => ⟨S_, .f32⟩
  | .hbm, ⟨20, _⟩ => ⟨S16, .f32⟩
  | .hbm, ⟨21, _⟩ => ⟨S_, .f32⟩
  | .hbm, ⟨22, _⟩ => ⟨S16, .f32⟩
  | .hbm, ⟨23, _⟩ => ⟨S16, .f32⟩
  | .hbm, ⟨24, _⟩ => ⟨S_, .f32⟩
  | .hbm, ⟨25, _⟩ => ⟨S16, .f32⟩
  | .hbm, ⟨26, _⟩ => ⟨S16, .f32⟩
  | .hbm, ⟨27, _⟩ => ⟨S16, .f32⟩
  | .hbm, ⟨28, _⟩ => ⟨S16, .f32⟩
  | .hbm, ⟨29, _⟩ => ⟨S_, .f32⟩
  | .hbm, ⟨30, _⟩ => ⟨S16, .f32⟩
  | .hbm, ⟨31, _⟩ => ⟨S16, .f32⟩
  | .hbm, ⟨32, _⟩ => ⟨S16, .f32⟩
  | .hbm, ⟨33, _⟩ => ⟨S16x64x4096, .f32⟩
  | .hbm, ⟨34, _⟩ => ⟨S16x262144, .f32⟩
  | .local _ .vmem, ⟨0, _⟩ => ⟨S16x278528, .f32⟩
  | .local _ .vmem, ⟨1, _⟩ => ⟨S16x432, .f32⟩
  | .local _ .vmem, ⟨2, _⟩ => ⟨S16x1, .f32⟩
  | .local _ .vmem, ⟨3, _⟩ => ⟨S1x16x4096, .f32⟩
  | .local _ .vmem, ⟨4, _⟩ => ⟨S1x16x4096, .f32⟩
  | .local _ .vmem, ⟨5, _⟩ => ⟨S1x16x2, .f32⟩
  | .local _ .vmem, ⟨6, _⟩ => ⟨S1x16x2, .f32⟩
  | _, _ => ⟨S1x16x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def k0_off1 (i : grid0.Coords) : Fin 2 → Nat :=
  let c0 : Index := 0#32
  let c8192_i32 : BitVec 32 := 8192#32
  let arg0 : BitVec 32 := BitVec.ofNat 32 (i 0).val
  let c4096_i32 : BitVec 32 := 4096#32
  let v0 : BitVec 32 := Scalar.muli arg0 c4096_i32
  let v1 : BitVec 32 := Scalar.addi c8192_i32 v0
  let c4224_i32 : BitVec 32 := 4224#32
  let v82 : BitVec 32 := Scalar.subi v1 c4224_i32
  let v83 : Index := Scalar.indexCast v82
  ![0, v83.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S16x278528 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x432 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x16x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16x2 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ProjectionIdeal.lean ====
abbrev S1x16x64x64x64 : Shape := ⟨5, ![1, 16, 64, 64, 64]⟩
abbrev S16x16x3x3x3 : Shape := ⟨5, ![16, 16, 3, 3, 3]⟩
abbrev S16 : Shape := ⟨1, ![16]⟩
abbrev S_ : Shape := ⟨0, ![]⟩
abbrev S1x16x66x66x66 : Shape := ⟨5, ![1, 16, 66, 66, 66]⟩
abbrev S16x16x64x64x64 : Shape := ⟨5, ![16, 16, 64, 64, 64]⟩
abbrev S11x16x64x64x64 : Shape := ⟨5, ![11, 16, 64, 64, 64]⟩
abbrev S27x16x64x64x64 : Shape := ⟨5, ![27, 16, 64, 64, 64]⟩
abbrev S27x16x262144 : Shape := ⟨3, ![27, 16, 262144]⟩
abbrev S16x16x27 : Shape := ⟨3, ![16, 16, 27]⟩
abbrev S16x262144 : Shape := ⟨2, ![16, 262144]⟩
abbrev S16x1 : Shape := ⟨2, ![16, 1]⟩

abbrev nBuf : Space → Nat
  | .hbm => 60
  | .vmem => 0
  | .smem => 0
  | _ => 0

abbrev bufTy : (tb : Table) → Fin (tcTables nBuf tb) → BufTy
  | .hbm, ⟨0, _⟩ => ⟨S1x16x64x64x64, .f32⟩
  | .hbm, ⟨1, _⟩ => ⟨S16x16x3x3x3, .f32⟩
  | .hbm, ⟨2, _⟩ => ⟨S16, .f32⟩
  | .hbm, ⟨3, _⟩ => ⟨S_, .i32⟩
  | .hbm, ⟨4, _⟩ => ⟨S_, .f32⟩
  | .hbm, ⟨5, _⟩ => ⟨S1x16x66x66x66, .f32⟩
  | .hbm, ⟨6, _⟩ => ⟨S1x16x64x64x64, .f32⟩
  | .hbm, ⟨7, _⟩ => ⟨S1x16x64x64x64, .f32⟩
  | .hbm, ⟨8, _⟩ => ⟨S1x16x64x64x64, .f32⟩
  | .hbm, ⟨9, _⟩ => ⟨S1x16x64x64x64, .f32⟩
  | .hbm, ⟨10, _⟩ => ⟨S1x16x64x64x64, .f32⟩
  | .hbm, ⟨11, _⟩ => ⟨S1x16x64x64x64, .f32⟩
  | .hbm, ⟨12, _⟩ => ⟨S1x16x64x64x64, .f32⟩
  | .hbm, ⟨13, _⟩ => ⟨S1x16x64x64x64, .f32⟩
  | .hbm, ⟨14, _⟩ => ⟨S1x16x64x64x64, .f32⟩
  | .hbm, ⟨15, _⟩ => ⟨S1x16x64x64x64, .f32⟩
  | .hbm, ⟨16, _⟩ => ⟨S1x16x64x64x64, .f32⟩
  | .hbm, ⟨17, _⟩ => ⟨S1x16x64x64x64, .f32⟩
  | .hbm, ⟨18, _⟩ => ⟨S1x16x64x64x64, .f32⟩
  | .hbm, ⟨19, _⟩ => ⟨S1x16x64x64x64, .f32⟩
  | .hbm, ⟨20, _⟩ => ⟨S1x16x64x64x64, .f32⟩
  | .hbm, ⟨21, _⟩ => ⟨S1x16x64x64x64, .f32⟩
  | .hbm, ⟨22, _⟩ => ⟨S1x16x64x64x64, .f32⟩
  | .hbm, ⟨23, _⟩ => ⟨S1x16x64x64x64, .f32⟩
  | .hbm, ⟨24, _⟩ => ⟨S1x16x64x64x64, .f32⟩
  | .hbm, ⟨25, _⟩ => ⟨S1x16x64x64x64, .f32⟩
  | .hbm, ⟨26, _⟩ => ⟨S1x16x64x64x64, .f32⟩
  | .hbm, ⟨27, _⟩ => ⟨S1x16x64x64x64, .f32⟩
  | .hbm, ⟨28, _⟩ => ⟨S1x16x64x64x64, .f32⟩
  | .hbm, ⟨29, _⟩ => ⟨S1x16x64x64x64, .f32⟩
  | .hbm, ⟨30, _⟩ => ⟨S1x16x64x64x64, .f32⟩
  | .hbm, ⟨31, _⟩ => ⟨S1x16x64x64x64, .f32⟩
  | .hbm, ⟨32, _⟩ => ⟨S1x16x64x64x64, .f32⟩
  | .hbm, ⟨33, _⟩ => ⟨S16x16x64x64x64, .f32⟩
  | .hbm, ⟨34, _⟩ => ⟨S11x16x64x64x64, .f32⟩
  | .hbm, ⟨35, _⟩ => ⟨S27x16x64x64x64, .f32⟩
  | .hbm, ⟨36, _⟩ => ⟨S27x16x262144, .f32⟩
  | .hbm, ⟨37, _⟩ => ⟨S16x16x27, .f32⟩
  | .hbm, ⟨38, _⟩ => ⟨S16x262144, .f32⟩
  | .hbm, ⟨39, _⟩ => ⟨S16x1, .f32⟩
  | .hbm, ⟨40, _⟩ => ⟨S16x262144, .f32⟩
  | .hbm, ⟨41, _⟩ => ⟨S16x262144, .f32⟩
  | .hbm, ⟨42, _⟩ => ⟨S_, .f32⟩
  | .hbm, ⟨43, _⟩ => ⟨S16, .f32⟩
  | .hbm, ⟨44, _⟩ => ⟨S_, .f32⟩
  | .hbm, ⟨45, _⟩ => ⟨S16, .f32⟩
  | .hbm, ⟨46, _⟩ => ⟨S16, .f32⟩
  | .hbm, ⟨47, _⟩ => ⟨S16x1, .f32⟩
  | .hbm, ⟨48, _⟩ => ⟨S16x262144, .f32⟩
  | .hbm, ⟨49, _⟩ => ⟨S16x262144, .f32⟩
  | .hbm, ⟨50, _⟩ => ⟨S16x262144, .f32⟩
  | .hbm, ⟨51, _⟩ => ⟨S_, .f32⟩
  | .hbm, ⟨52, _⟩ => ⟨S16, .f32⟩
  | .hbm, ⟨53, _⟩ => ⟨S_, .f32⟩
  | .hbm, ⟨54, _⟩ => ⟨S16, .f32⟩
  | .hbm, ⟨55, _⟩ => ⟨S16, .f32⟩
  | .hbm, ⟨56, _⟩ => ⟨S_, .f32⟩
  | .hbm, ⟨57, _⟩ => ⟨S16, .f32⟩
  | .hbm, ⟨58, _⟩ => ⟨S16, .f32⟩
  | .hbm, ⟨59, _⟩ => ⟨S16, .f32⟩
  | _, _ => ⟨S1x16x64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_cst : Ref sig .tc := ⟨.hbm, 42, rfl⟩
abbrev main_v37 : Ref sig .tc := ⟨.hbm, 43, rfl⟩
abbrev main_cst_0 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_cst_1 : Ref sig .tc := ⟨.hbm, 51, rfl⟩
abbrev main_v44 : Ref sig .tc := ⟨.hbm, 52, rfl⟩
abbrev main_cst_2 : Ref sig .tc := ⟨.hbm, 53, rfl⟩
abbrev main_v45 : Ref sig .tc := ⟨.hbm, 54, rfl⟩
abbrev main_v46 : Ref sig .tc := ⟨.hbm, 55, rfl⟩
abbrev main_cst_3 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩

abbrev nD : Nat := 1
abbrev τ : Topo := Topo.v7x

variable {F : FTy → Type} [FloatOps F]
-- ==== Normalise.lean ====
abbrev S64x16x4096 : Shape := ⟨3, ![64, 16, 4096]⟩
abbrev S16 : Shape := ⟨1, ![16]⟩
abbrev S_ : Shape := ⟨0, ![]⟩
abbrev S16x64x4096 : Shape := ⟨3, ![16, 64, 4096]⟩
abbrev S16x262144 : Shape := ⟨2, ![16, 262144]⟩
abbrev S16x278528 : Shape := ⟨2, ![16, 278528]⟩
abbrev S16x1 : Shape := ⟨2, ![16, 1]⟩
abbrev S1x1 : Shape := ⟨2, ![1, 1]⟩
abbrev S1x16x4096 : Shape := ⟨3, ![1, 16, 4096]⟩
abbrev S1x4096 : Shape := ⟨2, ![1, 4096]⟩
abbrev S16x4096 : Shape := ⟨2, ![16, 4096]⟩
abbrev S16x12544 : Shape := ⟨2, ![16, 12544]⟩

abbrev nBuf : Space → Nat
  | .hbm => 14
  | .vmem => 8
  | .smem => 0
  | _ => 0

abbrev bufTy : (tb : Table) → Fin (tcTables nBuf tb) → BufTy
  | .hbm, ⟨0, _⟩ => ⟨S64x16x4096, .f32⟩
  | .hbm, ⟨1, _⟩ => ⟨S16, .f32⟩
  | .hbm, ⟨2, _⟩ => ⟨S16, .f32⟩
  | .hbm, ⟨3, _⟩ => ⟨S_, .f32⟩
  | .hbm, ⟨4, _⟩ => ⟨S16x64x4096, .f32⟩
  | .hbm, ⟨5, _⟩ => ⟨S16x262144, .f32⟩
  | .hbm, ⟨6, _⟩ => ⟨S_, .i32⟩
  | .hbm, ⟨7, _⟩ => ⟨S_, .f32⟩
  | .hbm, ⟨8, _⟩ => ⟨S16x278528, .f32⟩
  | .hbm, ⟨9, _⟩ => ⟨S16x1, .f32⟩
  | .hbm, ⟨10, _⟩ => ⟨S16x1, .f32⟩
  | .hbm, ⟨11, _⟩ => ⟨S1x1, .f32⟩
  | .hbm, ⟨12, _⟩ => ⟨S64x16x4096, .f32⟩
  | .hbm, ⟨13, _⟩ => ⟨S64x16x4096, .f32⟩
  | .local _ .vmem, ⟨0, _⟩ => ⟨S16x278528, .f32⟩
  | .local _ .vmem, ⟨1, _⟩ => ⟨S16x1, .f32⟩
  | .local _ .vmem, ⟨2, _⟩ => ⟨S16x1, .f32⟩
  | .local _ .vmem, ⟨3, _⟩ => ⟨S1x1, .f32⟩
  | .local _ .vmem, ⟨4, _⟩ => ⟨S1x16x4096, .f32⟩
  | .local _ .vmem, ⟨5, _⟩ => ⟨S1x16x4096, .f32⟩
  | .local _ .vmem, ⟨6, _⟩ => ⟨S1x16x4096, .f32⟩
  | .local _ .vmem, ⟨7, _⟩ => ⟨S1x16x4096, .f32⟩
  | _, _ => ⟨S64x16x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def k0_off1 (i : grid0.Coords) : Fin 2 → Nat :=
  let c0_37 : Index := 0#32
  let c8192_i32 : BitVec 32 := 8192#32
  let arg0 : BitVec 32 := BitVec.ofNat 32 (i 0).val
  let c4096_i32 : BitVec 32 := 4096#32
  let v0 : BitVec 32 := Scalar.muli arg0 c4096_i32
  let v1 : BitVec 32 := Scalar.addi c8192_i32 v0
  let c4224_i32 : BitVec 32 := 4224#32
  let v89 : BitVec 32 := Scalar.subi v1 c4224_i32
  let v90 : Index := Scalar.indexCast v89
  ![0, v90.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S16x278528 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x16x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x16x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== NormaliseIdeal.lean ====
variable {F : FTy → Type} [FloatOps F] [Named F]
def κ : String → Option EReal := fun
  | "inv_27" => some ((27⁻¹ : ℝ) : EReal)
  | _ => none
-- ==== NormalisationIdeal.lean ====
abbrev S64x16x4096 : Shape := ⟨3, ![64, 16, 4096]⟩
abbrev S16 : Shape := ⟨1, ![16]⟩
abbrev S_ : Shape := ⟨0, ![]⟩
abbrev S16x64x4096 : Shape := ⟨3, ![16, 64, 4096]⟩
abbrev S1x16x64x64x64 : Shape := ⟨5, ![1, 16, 64, 64, 64]⟩
abbrev S1x16x1x1x1 : Shape := ⟨5, ![1, 16, 1, 1, 1]⟩
abbrev S1x16x66x66x66 : Shape := ⟨5, ![1, 16, 66, 66, 66]⟩
abbrev S1x16x1x64x64x64 : Shape := ⟨6, ![1, 16, 1, 64, 64, 64]⟩
abbrev S1x16x16x64x64x64 : Shape := ⟨6, ![1, 16, 16, 64, 64, 64]⟩
abbrev S1x16x11x64x64x64 : Shape := ⟨6, ![1, 16, 11, 64, 64, 64]⟩
abbrev S1x16x27x64x64x64 : Shape := ⟨6, ![1, 16, 27, 64, 64, 64]⟩
abbrev S1x16x27x262144 : Shape := ⟨4, ![1, 16, 27, 262144]⟩
abbrev S1x16x262144 : Shape := ⟨3, ![1, 16, 262144]⟩
abbrev S16x262144 : Shape := ⟨2, ![16, 262144]⟩

abbrev nBuf : Space → Nat
  | .hbm => 89
  | .vmem => 0
  | .smem => 0
  | _ => 0

abbrev bufTy : (tb : Table) → Fin (tcTables nBuf tb) → BufTy
  | .hbm, ⟨0, _⟩ => ⟨S64x16x4096, .f32⟩
  | .hbm, ⟨1, _⟩ => ⟨S16, .f32⟩
  | .hbm, ⟨2, _⟩ => ⟨S16, .f32⟩
  | .hbm, ⟨3, _⟩ => ⟨S_, .f32⟩
  | .hbm, ⟨4, _⟩ => ⟨S16x64x4096, .f32⟩
  | .hbm, ⟨5, _⟩ => ⟨S1x16x64x64x64, .f32⟩
  | .hbm, ⟨6, _⟩ => ⟨S1x16x1x1x1, .f32⟩
  | .hbm, ⟨7, _⟩ => ⟨S1x16x64x64x64, .f32⟩
  | .hbm, ⟨8, _⟩ => ⟨S1x16x64x64x64, .f32⟩
  | .hbm, ⟨9, _⟩ => ⟨S1x16x1x1x1, .f32⟩
  | .hbm, ⟨10, _⟩ => ⟨S1x16x64x64x64, .f32⟩
  | .hbm, ⟨11, _⟩ => ⟨S1x16x64x64x64, .f32⟩
  | .hbm, ⟨12, _⟩ => ⟨S_, .f32⟩
  | .hbm, ⟨13, _⟩ => ⟨S1x16x64x64x64, .f32⟩
  | .hbm, ⟨14, _⟩ => ⟨S1x16x64x64x64, .i1⟩
  | .hbm, ⟨15, _⟩ => ⟨S1x16x64x64x64, .f32⟩
  | .hbm, ⟨16, _⟩ => ⟨S1x16x64x64x64, .f32⟩
  | .hbm, ⟨17, _⟩ => ⟨S1x16x64x64x64, .f32⟩
  | .hbm, ⟨18, _⟩ => ⟨S_, .i32⟩
  | .hbm, ⟨19, _⟩ => ⟨S_, .f32⟩
  | .hbm, ⟨20, _⟩ => ⟨S1x16x66x66x66, .f32⟩
  | .hbm, ⟨21, _⟩ => ⟨S1x16x64x64x64, .f32⟩
  | .hbm, ⟨22, _⟩ => ⟨S1x16x64x64x64, .f32⟩
  | .hbm, ⟨23, _⟩ => ⟨S1x16x64x64x64, .f32⟩
  | .hbm, ⟨24, _⟩ => ⟨S1x16x64x64x64, .f32⟩
  | .hbm, ⟨25, _⟩ => ⟨S1x16x64x64x64, .f32⟩
  | .hbm, ⟨26, _⟩ => ⟨S1x16x64x64x64, .f32⟩
  | .hbm, ⟨27, _⟩ => ⟨S1x16x64x64x64, .f32⟩
  | .hbm, ⟨28, _⟩ => ⟨S1x16x64x64x64, .f32⟩
  | .hbm, ⟨29, _⟩ => ⟨S1x16x64x64x64, .f32⟩
  | .hbm, ⟨30, _⟩ => ⟨S1x16x64x64x64, .f32⟩
  | .hbm, ⟨31, _⟩ => ⟨S1x16x64x64x64, .f32⟩
  | .hbm, ⟨32, _⟩ => ⟨S1x16x64x64x64, .f32⟩
  | .hbm, ⟨33, _⟩ => ⟨S1x16x64x64x64, .f32⟩
  | .hbm, ⟨34, _⟩ => ⟨S1x16x64x64x64, .f32⟩
  | .hbm, ⟨35, _⟩ => ⟨S1x16x64x64x64, .f32⟩
  | .hbm, ⟨36, _⟩ => ⟨S1x16x64x64x64, .f32⟩
  | .hbm, ⟨37, _⟩ => ⟨S1x16x64x64x64, .f32⟩
  | .hbm, ⟨38, _⟩ => ⟨S1x16x64x64x64, .f32⟩
  | .hbm, ⟨39, _⟩ => ⟨S1x16x64x64x64, .f32⟩
  | .hbm, ⟨40, _⟩ => ⟨S1x16x64x64x64, .f32⟩
  | .hbm, ⟨41, _⟩ => ⟨S1x16x64x64x64, .f32⟩
  | .hbm, ⟨42, _⟩ => ⟨S1x16x64x64x64, .f32⟩
  | .hbm, ⟨43, _⟩ => ⟨S1x16x64x64x64, .f32⟩
  | .hbm, ⟨44, _⟩ => ⟨S1x16x64x64x64, .f32⟩
  | .hbm, ⟨45, _⟩ => ⟨S1x16x64x64x64, .f32⟩
  | .hbm, ⟨46, _⟩ => ⟨S1x16x64x64x64, .f32⟩
  | .hbm, ⟨47, _⟩ => ⟨S1x16x64x64x64, .f32⟩
  | .hbm, ⟨48, _⟩ => ⟨S1x16x1x64x64x64, .f32⟩
  | .hbm, ⟨49, _⟩ => ⟨S1x16x1x64x64x64, .f32⟩
  | .hbm, ⟨50, _⟩ => ⟨S1x16x1x64x64x64, .f32⟩
  | .hbm, ⟨51, _⟩ => ⟨S1x16x1x64x64x64, .f32⟩
  | .hbm, ⟨52, _⟩ => ⟨S1x16x1x64x64x64, .f32⟩
  | .hbm, ⟨53, _⟩ => ⟨S1x16x1x64x64x64, .f32⟩
  | .hbm, ⟨54, _⟩ => ⟨S1x16x1x64x64x64, .f32⟩
  | .hbm, ⟨55, _⟩ => ⟨S1x16x1x64x64x64, .f32⟩
  | .hbm, ⟨56, _⟩ => ⟨S1x16x1x64x64x64, .f32⟩
  | .hbm, ⟨57, _⟩ => ⟨S1x16x1x64x64x64, .f32⟩
  | .hbm, ⟨58, _⟩ => ⟨S1x16x1x64x64x64, .f32⟩
  | .hbm, ⟨59, _⟩ => ⟨S1x16x1x64x64x64, .f32⟩
  | .hbm, ⟨60, _⟩ => ⟨S1x16x1x64x64x64, .f32⟩
  | .hbm, ⟨61, _⟩ => ⟨S1x16x1x64x64x64, .f32⟩
  | .hbm, ⟨62, _⟩ => ⟨S1x16x1x64x64x64, .f32⟩
  | .hbm, ⟨63, _⟩ => ⟨S1x16x1x64x64x64, .f32⟩
  | .hbm, ⟨64, _⟩ => ⟨S1x16x1x64x64x64, .f32⟩
  | .hbm, ⟨65, _⟩ => ⟨S1x16x1x64x64x64, .f32⟩
  | .hbm, ⟨66, _⟩ => ⟨S1x16x1x64x64x64, .f32⟩
  | .hbm, ⟨67, _⟩ => ⟨S1x16x1x64x64x64, .f32⟩
  | .hbm, ⟨68, _⟩ => ⟨S1x16x1x64x64x64, .f32⟩
  | .hbm, ⟨69, _⟩ => ⟨S1x16x1x64x64x64, .f32⟩
  | .hbm, ⟨70, _⟩ => ⟨S1x16x1x64x64x64, .f32⟩
  | .hbm, ⟨71, _⟩ => ⟨S1x16x1x64x64x64, .f32⟩
  | .hbm, ⟨72, _⟩ => ⟨S1x16x1x64x64x64, .f32⟩
  | .hbm, ⟨73, _⟩ => ⟨S1x16x1x64x64x64, .f32⟩
  | .hbm, ⟨74, _⟩ => ⟨S1x16x1x64x64x64, .f32⟩
  | .hbm, ⟨75, _⟩ => ⟨S1x16x16x64x64x64, .f32⟩
  | .hbm, ⟨76, _⟩ => ⟨S1x16x11x64x64x64, .f32⟩
  | .hbm, ⟨77, _⟩ => ⟨S1x16x27x64x64x64, .f32⟩
  | .hbm, ⟨78, _⟩ => ⟨S1x16x27x262144, .f32⟩
  | .hbm, ⟨79, _⟩ => ⟨S_, .f32⟩
  | .hbm, ⟨80, _⟩ => ⟨S1x16x262144, .f32⟩
  | .hbm, ⟨81, _⟩ => ⟨S_, .f32⟩
  | .hbm, ⟨82, _⟩ => ⟨S1x16x262144, .f32⟩
  | .hbm, ⟨83, _⟩ => ⟨S1x16x262144, .f32⟩
  | .hbm, ⟨84, _⟩ => ⟨S16x262144, .f32⟩
  | .hbm, ⟨85, _⟩ => ⟨S16x64x4096, .f32⟩
  | .hbm, ⟨86, _⟩ => ⟨S64x16x4096, .f32⟩
  | .hbm, ⟨87, _⟩ => ⟨S16x64x4096, .f32⟩
  | .hbm, ⟨88, _⟩ => ⟨S64x16x4096, .f32⟩
  | _, _ => ⟨S64x16x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_call1_v0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_cst_0 : Ref sig .tc := ⟨.hbm, 79, rfl⟩
abbrev main_v72 : Ref sig .tc := ⟨.hbm, 80, rfl⟩
abbrev main_cst_1 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩

abbrev nD : Nat := 1
abbrev τ : Topo := Topo.v7x

variable {F : FTy → Type} [FloatOps F]
-- ==== Proof.Words.lean ====
/-  The integer words the kernels compute from a lane number: its row and column in a 64×64 plane, and the
    comparisons that say whether a neighbour is inside the plane. None of it mentions a program. -/
module

public import Idealize.ShloMosaic.Lib.Pointwise
public import Idealize.ShloMosaic.PureOps.Ideal

@[expose] public section

open Idealize.ShloMosaic

namespace Cert.Taps

/-- A signed comparison `a ≥ 1` of a small number. -/
theorem sge_one (a : ℕ) (ha : a < 4096) :
    IntOp.cmpi .sge (BitVec.ofNat 32 a) 1#32 = BitVec.ofBool (decide (1 ≤ a)) := by
  revert ha; revert a; decide +kernel

/-- A signed comparison `a ≤ 62` of a small number. -/
theorem sle_62 (a : ℕ) (ha : a < 4096) :
    IntOp.cmpi .sle (BitVec.ofNat 32 a) 62#32 = BitVec.ofBool (decide (a ≤ 62)) := by
  revert ha; revert a; decide +kernel

/-- The printed floor division of a lane number by 64 is the quotient. -/
theorem row_word (p : ℕ) (hp : p < 4096) :
    Scalar.select
      (IntOp.andi
        (IntOp.cmpi .ne
          (IntOp.subi (BitVec.setWidth 32 (IntOp.cmpi .sgt (BitVec.ofNat 32 p) 0#32))
            (BitVec.setWidth 32 (IntOp.cmpi .slt (BitVec.ofNat 32 p) 0#32)))
          (Scalar.subi (Scalar.extui (Scalar.cmpi .sgt 64#32 0#32))
            (Scalar.extui (Scalar.cmpi .slt 64#32 0#32))))
        (IntOp.cmpi .ne (IntOp.remsi .vector (BitVec.ofNat 32 p) 64#32) 0#32))
      (IntOp.subi (IntOp.divsi .vector (BitVec.ofNat 32 p) 64#32) 1#32)
      (IntOp.divsi .vector (BitVec.ofNat 32 p) 64#32) = BitVec.ofNat 32 (p / 64) := by
  revert hp; revert p; decide +kernel

/-- A lane number less 64 times its row is its column. -/
theorem col_word (p : ℕ) (hp : p < 4096) :
    IntOp.subi (BitVec.ofNat 32 p) (IntOp.muli (BitVec.ofNat 32 (p / 64)) 64#32) = BitVec.ofNat 32 (p % 64) := by
  revert hp; revert p; decide +kernel

/-- A choice on the conjunction of two tested conditions. -/
theorem select_and {α : Type} (P Q : Prop) [Decidable P] [Decidable Q] (x y : α) :
    Scalar.select (IntOp.andi (BitVec.ofBool (decide P)) (BitVec.ofBool (decide Q))) x y = if P ∧ Q then x else y := by
  by_cases hP : P <;> by_cases hQ : Q <;> simp [hP, hQ, Scalar.select, IntOp.andi]

/-- A choice on one tested condition. -/
theorem select_one {α : Type} (P : Prop) [Decidable P] (x y : α) :
    Scalar.select (BitVec.ofBool (decide P)) x y = if P then x else y := by
  by_cases hP : P <;> simp [hP, Scalar.select]

end Cert.Taps

end
-- ==== Proof.Taps.lean ====
/-  The 27 taps of a 3×3×3 stencil over a 64×64×64 volume that is stored flat, one row of 262144 voxels per
    channel, with 8192 zeros on either side: what a masked read of the padded row is in terms of the volume,
    what a stack of 27 tap blocks holds, and what a product with such a stack sums. None of it mentions a program. -/
module

public import proofs.«01_k».proof.Proof.Words
public import Idealize.ShloMosaic.Lib.KernelVsHost
public import Idealize.ShloMosaic.Lib.Pointwise
public import Idealize.ShloMosaic.Lib.Pipeline.Value
public import Idealize.ShloMosaic.PureOps.Ideal

@[expose] public section

noncomputable section

open Idealize.ShloMosaic

namespace Cert.Taps

/-! ## The volume and its padded row -/

/-- The volume `V` (one flat row per channel) read at coordinates that count from one: zero outside the 64³ box. -/
def at3 (V : Fin 16 → ℕ → EReal) (c : Fin 16) (d h w : ℕ) : EReal :=
  if (1 ≤ d ∧ d ≤ 64) ∧ (1 ≤ h ∧ h ≤ 64) ∧ 1 ≤ w ∧ w ≤ 64 then V c ((d - 1) * 4096 + (h - 1) * 64 + (w - 1)) else 0

/-- The volume's row with 8192 zeros on either side. -/
def padded (V : Fin 16 → ℕ → EReal) (c : Fin 16) (q : ℕ) : EReal :=
  if 8192 ≤ q ∧ q < 270336 then V c (q - 8192) else 0

/-- Tap `t`'s lane `p` has its row and column neighbour inside the plane. -/
abbrev inPlane (t p : ℕ) : Prop :=
  (1 ≤ p / 64 + t / 3 % 3 ∧ p / 64 + t / 3 % 3 ≤ 64) ∧ 1 ≤ p % 64 + t % 3 ∧ p % 64 + t % 3 ≤ 64

/-- Tap `t`'s mask at lane `p`. -/
def tmask (t p : ℕ) : EReal := if inPlane t p then 1 else 0

/-- Tap `t` of plane `i` at lane `p`: the volume at the tap's neighbour. -/
def tap (V : Fin 16 → ℕ → EReal) (i : ℕ) (t : ℕ) (c : Fin 16) (p : ℕ) : EReal :=
  at3 V c (i + t / 9) (p / 64 + t / 3 % 3) (p % 64 + t % 3)

/-- A masked read of the padded row, at the offset of tap `t` from plane `i`, is the tap. -/
theorem padded_mul_mask (V : Fin 16 → ℕ → EReal) (c : Fin 16) (i t p q : ℕ) (hi : i < 64) (ht : t < 27) (hp : p < 4096)
    (hq : q = 4031 + 4096 * i + 4096 * (t / 9) + 64 * (t / 3 % 3) + t % 3 + p) :
    padded V c q * tmask t p = tap V i t c p := by
  unfold tmask tap at3 padded
  by_cases hin : inPlane t p
  · rw [if_pos hin, mul_one]
    unfold inPlane at hin
    have h9 : t / 9 < 3 := by omega
    by_cases hd : 1 ≤ i + t / 9 ∧ i + t / 9 ≤ 64
    · have e : q - 8192 = (i + t / 9 - 1) * 4096 + (p / 64 + t / 3 % 3 - 1) * 64 + (p % 64 + t % 3 - 1) := by omega
      rw [if_pos (show 8192 ≤ q ∧ q < 270336 by omega), if_pos ⟨hd, hin⟩, e]
    · rw [if_neg (show ¬(8192 ≤ q ∧ q < 270336) by omega), if_neg (fun h => hd h.1)]
  · rw [if_neg hin, mul_zero, if_neg (fun h => hin h.2)]

/-- The same where the mask has become a choice. -/
theorem ite_padded (V : Fin 16 → ℕ → EReal) (c : Fin 16) (i t p q : ℕ) (A : Prop) [Decidable A] (hi : i < 64) (ht : t < 27)
    (hp : p < 4096) (hA : A ↔ inPlane t p)
    (hq : q = 4031 + 4096 * i + 4096 * (t / 9) + 64 * (t / 3 % 3) + t % 3 + p) :
    (if A then padded V c q else 0) = tap V i t c p := by
  rw [← padded_mul_mask V c i t p q hi ht hp hq]
  unfold tmask
  by_cases h : A
  · rw [if_pos h, if_pos (hA.mp h), mul_one]
  · rw [if_neg h, if_neg (fun g => h (hA.mpr g)), mul_zero]

/-- The same where a factor has been carried into the choice. -/
theorem ite_padded_mul (V : Fin 16 → ℕ → EReal) (c : Fin 16) (i t p q : ℕ) (m : EReal) (A : Prop) [Decidable A] (hi : i < 64)
    (ht : t < 27) (hp : p < 4096) (hA : A ↔ inPlane t p)
    (hq : q = 4031 + 4096 * i + 4096 * (t / 9) + 64 * (t / 3 % 3) + t % 3 + p) :
    (if A then padded V c q * m else 0) = tap V i t c p * m := by
  rw [← ite_padded V c i t p q A hi ht hp hA hq]
  by_cases h : A
  · rw [if_pos h, if_pos h]
  · rw [if_neg h, if_neg h, zero_mul]

/-- A read that needs no mask. -/
theorem padded_eq (V : Fin 16 → ℕ → EReal) (c : Fin 16) (i t p q : ℕ) (hi : i < 64) (ht : t < 27)
    (hp : p < 4096) (hA : inPlane t p)
    (hq : q = 4031 + 4096 * i + 4096 * (t / 9) + 64 * (t / 3 % 3) + t % 3 + p) :
    padded V c q = tap V i t c p := by
  rw [← ite_padded V c i t p q True hi ht hp (iff_of_true trivial hA) hq, if_pos trivial]

/-! ## The stack of 27 tap blocks -/

/-- A stack of blocks of 16 rows read at row `16 t + c`: row `c` of block `t`. -/
theorem stack_apply (ys : List ((⟨2, ![16, 4096]⟩ : Shape).Idx → EReal))
    (h : Shape.Concatenates ((ys.map fun v => (⟨⟨2, ![16, 4096]⟩, v⟩ : (s : Shape) × (s.Idx → EReal))).map (·.1)) ⟨2, ![432, 4096]⟩ 0)
    (t : ℕ) (ht : t < ys.length) (k : Fin 432) (c : Fin 16) (p : Fin 4096) (hk : k.val = 16 * t + c.val) :
    concatenate ⟨2, ![432, 4096]⟩ 0 (ys.map fun v => (⟨⟨2, ![16, 4096]⟩, v⟩ : (s : Shape) × (s.Idx → EReal))) h (ix2 k p)
      = ys[t] (ix2 c p) := by
  have e : (ys.map fun v => (⟨⟨2, ![16, 4096]⟩, v⟩ : (s : Shape) × (s.Idx → EReal)))
      = List.ofFn fun n : Fin ys.length => (⟨⟨2, ![16, 4096]⟩, ys[n.val]⟩ : (s : Shape) × (s.Idx → EReal)) := by
    apply List.ext_getElem <;> simp
  revert h
  rw [e]
  intro h
  refine concatenate_ofFn_apply (t := ⟨2, ![432, 4096]⟩) (s₁ := ⟨2, ![16, 4096]⟩) 0 (fun n : Fin ys.length => ys[n.val]) h rfl 16 rfl
    (ix2 k p) ⟨t, ht⟩ ?_ (ix2 c p) ?_ ?_
  · show k.val / 16 = t
    omega
  · show c.val = k.val % 16
    omega
  · intro b hb
    match b with
    | ⟨0, _⟩ => exact absurd rfl hb
    | ⟨1, _⟩ => rfl

/-- A sum over 432 positions, taken as 27 groups of 16. -/
theorem sum_432 (f : Fin 432 → EReal) :
    ∑ k, f k = ∑ t : Fin 27, ∑ c : Fin 16, f ⟨16 * t.val + c.val, by omega⟩ := by
  rw [← Fintype.sum_prod_type']
  refine (Fintype.sum_equiv (finProdFinEquiv (m := 27) (n := 16)) _ _ fun x => ?_).symm
  congr 1
  apply Fin.ext
  simp [finProdFinEquiv]
  omega

/-! ## The two ways of padding -/

/-- An array of planes as one flat volume per channel. -/
def vol (yn : Vec Ideal ⟨3, ![64, 16, 4096]⟩ .f32) (k : Fin 16) (q : ℕ) : EReal :=
  if h : q < 262144 then yn (ix3 ⟨q / 4096, by omega⟩ k ⟨q % 4096, by omega⟩) else 0

theorem vol_apply (yn : Vec Ideal ⟨3, ![64, 16, 4096]⟩ .f32) (k : Fin 16) (d h w : Fin 64) :
    yn (ix3 d k ⟨h.val * 64 + w.val, by omega⟩) = vol yn k (d.val * 4096 + h.val * 64 + w.val) := by
  have e1 : (⟨(d.val * 4096 + h.val * 64 + w.val) / 4096, by omega⟩ : Fin 64) = d := Fin.ext (by show (d.val * 4096 + h.val * 64 + w.val) / 4096 = d.val; omega)
  have e2 : (⟨(d.val * 4096 + h.val * 64 + w.val) % 4096, by omega⟩ : Fin 4096) = ⟨h.val * 64 + w.val, by omega⟩ :=
    Fin.ext (by show (d.val * 4096 + h.val * 64 + w.val) % 4096 = h.val * 64 + w.val; omega)
  rw [vol, dif_pos (by omega), e1, e2]

/-- A flat volume between two margins of zeros is `padded`. -/
theorem pad_flat (x : Vec Ideal ⟨2, ![16, 262144]⟩ .f32) {u : Shape} (v : Vec Ideal u .f32)
    (h : (⟨2, ![16, 262144]⟩ : Shape).Pads ![0, 8192] ![0, 8192] ![0, 0] ⟨2, ![16, 278528]⟩) (hu : 0 < u.numel)
    (hv : v (Shape.Idx.first hu) = 0) (V : Fin 16 → ℕ → EReal) (hx : ∀ k q, x (ix2 k q) = V k q.val) (k : Fin 16) (q : Fin 278528) :
    pad ⟨2, ![16, 278528]⟩ ![0, 8192] ![0, 8192] ![0, 0] x v h hu (ix2 k q) = padded V k q.val := by
  unfold padded
  by_cases hq : 8192 ≤ q.val ∧ q.val < 270336
  · rw [if_pos hq, pad_apply_of_inside _ _ _ x v h hu _ (ix2 k ⟨q.val - 8192, by omega⟩), hx]
    intro a
    fin_cases a
    · show k.val = 0 + k.val * (0 + 1)
      omega
    · show q.val = 8192 + (q.val - 8192) * (0 + 1)
      omega
  · rw [if_neg hq, pad_apply_of_not_inside _ _ _ x v h hu _ 1, hv]
    show ¬(8192 ≤ q.val ∧ (q.val - 8192) % (0 + 1) = 0 ∧ (q.val - 8192) / (0 + 1) < 262144)
    omega

/-- A cube with one layer of zeros around it is `at3`. -/
theorem pad_cube (x : Vec Ideal ⟨5, ![1, 16, 64, 64, 64]⟩ .f32) {u : Shape} (v : Vec Ideal u .f32)
    (h : (⟨5, ![1, 16, 64, 64, 64]⟩ : Shape).Pads ![0, 0, 1, 1, 1] ![0, 0, 1, 1, 1] ![0, 0, 0, 0, 0] ⟨5, ![1, 16, 66, 66, 66]⟩)
    (hu : 0 < u.numel) (hv : v (Shape.Idx.first hu) = 0) (V : Fin 16 → ℕ → EReal)
    (hx : ∀ k (d h w : Fin 64), x (ix5 0 k d h w) = V k (d.val * 4096 + h.val * 64 + w.val)) (k : Fin 16) (d e w : Fin 66) :
    pad ⟨5, ![1, 16, 66, 66, 66]⟩ ![0, 0, 1, 1, 1] ![0, 0, 1, 1, 1] ![0, 0, 0, 0, 0] x v h hu (ix5 0 k d e w)
      = at3 V k d.val e.val w.val := by
  unfold at3
  by_cases hq : (1 ≤ d.val ∧ d.val ≤ 64) ∧ (1 ≤ e.val ∧ e.val ≤ 64) ∧ 1 ≤ w.val ∧ w.val ≤ 64
  · rw [if_pos hq, pad_apply_of_inside _ _ _ x v h hu _ (ix5 0 k ⟨d.val - 1, by omega⟩ ⟨e.val - 1, by omega⟩ ⟨w.val - 1, by omega⟩), hx]
    intro a
    fin_cases a
    · rfl
    · show k.val = 0 + k.val * (0 + 1)
      omega
    · show d.val = 1 + (d.val - 1) * (0 + 1)
      omega
    · show e.val = 1 + (e.val - 1) * (0 + 1)
      omega
    · show w.val = 1 + (w.val - 1) * (0 + 1)
      omega
  · rw [if_neg hq]
    have out : ∀ n : ℕ, ¬(1 ≤ n ∧ n ≤ 64) → ¬(1 ≤ n ∧ (n - 1) % (0 + 1) = 0 ∧ (n - 1) / (0 + 1) < 64) := fun n _ => by omega
    by_cases hd : 1 ≤ d.val ∧ d.val ≤ 64
    · by_cases he : 1 ≤ e.val ∧ e.val ≤ 64
      · rw [pad_apply_of_not_inside _ _ _ x v h hu (ix5 0 k d e w) 4 (out w.val (fun g => hq ⟨hd, he, g⟩)), hv]
      · rw [pad_apply_of_not_inside _ _ _ x v h hu (ix5 0 k d e w) 3 (out e.val he), hv]
    · rw [pad_apply_of_not_inside _ _ _ x v h hu (ix5 0 k d e w) 2 (out d.val hd), hv]

end Cert.Taps

end
-- ==== Proof.Dyn.lean ====
/-  What one grid point of the dynamic convolution stores, read at a channel and a lane. -/
module

public import proofs.«01_k».proof.Proof.Gen.KernelIdeal.Frame
public import proofs.«01_k».proof.Proof.Taps
public import Idealize.ShloMosaic.Lib.Pipeline.ValueKit

@[expose] public section

set_option maxRecDepth 16384

noncomputable section

open Idealize.ShloMosaic Idealize.ShloMosaic.TcCoe Idealize.SL.Sem

namespace Cert.Dyn

open Cert.KernelIdeal Cert.KernelIdeal.Gen Cert.Taps

/-- The table entry a cluster number selects, spelt as the sum over the four clusters of entry times indicator. -/
def pick (f : Fin 4 → EReal) (a : BitVec 32) : EReal :=
  f 0 * (if a = 0#32 then 1 else 0) + f 1 * (if a = 1#32 then 1 else 0) + f 2 * (if a = 2#32 then 1 else 0)
    + f 3 * (if a = 3#32 then 1 else 0)

/-- Of a cluster number below four the sum is the entry. -/
theorem pick_of (f : Fin 4 → EReal) (j : Fin 4) : pick f (BitVec.ofNat 32 j.val) = f j := by
  unfold pick
  fin_cases j <;> simp

/-- The leaky rectifier of slope `a`. -/
def prelu (a z : EReal) : EReal := if 0 ≤ z then z else a * z

theorem eq_word (a b : BitVec 32) : IntOp.cmpi .eq a b = BitVec.ofBool (decide (a = b)) := by
  exact congrArg BitVec.ofBool (by rw [Bool.eq_iff_iff]; simp)

section
variable (x1 : Vec Ideal S1x1x4096 .i32) (x2 : Vec Ideal S27x4 .f32) (x3 : Vec Ideal S16x4 .f32)

/-- The body's modulation rows: one per tap, the table row picked by the lane's cluster. -/
abbrev modV : FVec Ideal S27x4096 .f32 :=
  k0_pay26 (k0_pay5 (F := Ideal) x1)
    (k0_pay21 (k0_pay5 (F := Ideal) x1)
      (View.ld x2 (Rect.unit ![0, 0] ![27, 1] inb_S27x4_S27x1_0_0))
      (View.ld x2 (Rect.unit ![0, 1] ![27, 1] inb_S27x4_S27x1_0_1)))
    (k0_pay23 (k0_pay5 (F := Ideal) x1))
    (k0_pay24 (View.ld x2 (Rect.unit ![0, 2] ![27, 1] inb_S27x4_S27x1_0_2)))
    (View.ld x2 (Rect.unit ![0, 3] ![27, 1] inb_S27x4_S27x1_0_3))

theorem modV_apply (t : Fin 27) (p : Fin 4096) :
    modV x1 x2 (ix2 t p) = pick (fun j => x2 (ix2 t j)) (x1 (ix3 0 0 p)) := by
  unfold pick
  pointwise [modV, k0_pay26, k0_pay5, k0_pay21, k0_pay23, k0_pay24, k0_pay19, k0_pay20, k0_pay25]
  simp only [eq_word, select_one, mul_ite, mul_one, mul_zero]

/-- The body's bias rows: one per output channel, the table row picked by the lane's cluster. -/
abbrev biasV : FVec Ideal S16x4096 .f32 :=
  k0_pay27 (k0_pay5 (F := Ideal) x1)
    (k0_pay22 (k0_pay5 (F := Ideal) x1)
      (View.ld x3 (Rect.unit ![0, 0] ![16, 1] inb_S16x4_S16x1_0_0))
      (View.ld x3 (Rect.unit ![0, 1] ![16, 1] inb_S16x4_S16x1_0_1)))
    (k0_pay23 (k0_pay5 (F := Ideal) x1))
    (View.ld x3 (Rect.unit ![0, 2] ![16, 1] inb_S16x4_S16x1_0_2))
    (View.ld x3 (Rect.unit ![0, 3] ![16, 1] inb_S16x4_S16x1_0_3))

theorem biasV_apply (o : Fin 16) (p : Fin 4096) :
    biasV x1 x3 (ix2 o p) = pick (fun j => x3 (ix2 o j)) (x1 (ix3 0 0 p)) := by
  unfold pick
  pointwise [biasV, k0_pay27, k0_pay5, k0_pay22, k0_pay23, k0_pay19, k0_pay20, k0_pay25]
  simp only [eq_word, select_one, mul_ite, mul_one, mul_zero]
end

/-- The body's window of the padded row starts 4224 before the plane. -/
theorem off1_eq (i : grid0.Coords) : k0_off1 i 0 = 0 ∧ k0_off1 i 1 = 3968 + 4096 * (i 0).val := by
  have : ∀ j : Fin 64, (Scalar.indexCast (Scalar.subi (Scalar.addi 8192#32 (Scalar.muli (BitVec.ofNat 32 j.val) 4096#32)) 4224#32)).toNat = 3968 + 4096 * j.val := by
    decide +kernel
  exact ⟨rfl, this (i 0)⟩

/-- The last step of the body: the product with the stacked taps, the bias, the leaky rectifier, the residual. -/
theorem pay4_apply (b : FVec Ideal S16x4096 .f32) (M : FVec Ideal S432x4096 .f32) (w : Vec Ideal S16x432 .f32) (a : Vec Ideal S1x1 .f32)
    (x : Vec Ideal S1x16x4096 .f32) (o : Fin 16) (p : Fin 4096) :
    k0_pay4 b M w a x (ix3 0 o p) = prelu (a (ix2 0 0)) (∑ k, w (ix2 o k) * M (ix2 k p) + b (ix2 o p)) + x (ix3 0 o p) := by
  unfold prelu
  pointwise [k0_pay4]

/-- What the body stores at output channel `o` and lane `p`, when its first operand is the padded row of the volume `V`. -/
theorem out_apply (c : Dev nD) (i : grid0.Coords) (arg1 : Memref sig .tc .vmem S16x278528 .f32) (harg1 : arg1.IsWhole) (arg2 : Memref sig .tc .vmem S1x1x4096 .i32) (harg2 : arg2.IsWhole) (arg3 : Memref sig .tc .vmem S27x4 .f32) (harg3 : arg3.IsWhole) (arg4 : Memref sig .tc .vmem S16x4 .f32) (harg4 : arg4.IsWhole) (arg5 : Memref sig .tc .vmem S16x432 .f32) (harg5 : arg5.IsWhole) (arg6 : Memref sig .tc .vmem S1x16x4096 .f32) (harg6 : arg6.IsWhole) (arg7 : Memref sig .tc .vmem S1x1 .f32) (harg7 : arg7.IsWhole) (arg8 : Memref sig .tc .vmem S1x16x4096 .f32) (harg8 : arg8.IsWhole)
    (x0 : Vec Ideal S16x278528 .f32) (x1 : Vec Ideal S1x1x4096 .i32) (x2 : Vec Ideal S27x4 .f32) (x3 : Vec Ideal S16x4 .f32) (x4 : Vec Ideal S16x432 .f32) (x5 : Vec Ideal S1x16x4096 .f32) (x6 : Vec Ideal S1x1 .f32)
    (V : Fin 16 → ℕ → EReal) (hx0 : ∀ (k : Fin 16) (q : Fin 278528), x0 (ix2 k q) = padded V k q.val) (o : Fin 16) (p : Fin 4096) :
    out0_A_7 c i arg1 harg1 arg2 harg2 arg3 harg3 arg4 harg4 arg5 harg5 arg6 harg6 arg7 harg7 arg8 harg8 x0 x1 x2 x3 x4 x5 x6 (ix3 0 o p)
      = prelu (x6 (ix2 0 0))
          (∑ t : Fin 27, ∑ k : Fin 16, x4 (ix2 o ⟨16 * t.val + k.val, by omega⟩)
              * (tap V (i 0).val t.val k p.val * pick (fun j => x2 (ix2 t j)) (x1 (ix3 0 0 p)))
            + pick (fun j => x3 (ix2 o j)) (x1 (ix3 0 0 p))) + x5 (ix3 0 o p) := by
  have hi : (i 0).val < 64 := (i 0).isLt
  have hp : p.val < 4096 := p.isLt
  have hh : p.val / 64 < 4096 := by omega
  have hw : p.val % 64 < 4096 := by omega
  frame_out
  rw [harg1.read_unread, harg2.read_unread, harg3.read_unread]
  rw [show View.ld x1 (Rect.unit (s := S1x1x4096) ![0, 0, 0] S1x1x4096.size inb_S1x1x4096_S1x1x4096_0_0_0) = x1 from View.ld_unit_lit _ x1 (by decide)]
  have hm := modV_apply x1 x2
  simp only [modV] at hm
  refine (pay4_apply _ _ _ _ _ o p).trans ?_
  have hb := biasV_apply x1 x3 o p
  simp only [biasV] at hb
  rw [sum_432, hb]
  congr 3
  refine Finset.sum_congr rfl fun t _ => Finset.sum_congr rfl fun k _ => ?_
  congr 1
  refine (stack_apply [_, _, _, _, _, _, _, _, _, _, _, _, _, _, _, _, _, _, _, _, _, _, _, _, _, _, _] _ t.val (by exact t.isLt) _ k p rfl).trans ?_
  have hL : ∀ (q : Fin 12544), View.ld x0 (Rect.unit (s := S16x278528) (k0_off1 i) S16x12544.size (k0_off1_inb i)) (ix2 k q)
      = padded V k (3968 + 4096 * (i 0).val + q.val) := by
    intro q
    pointwise
    rw [← (off1_eq i).2]
    refine (congrArg x0 ?_).trans (hx0 k ⟨k0_off1 i 1 + q.val, by rw [(off1_eq i).2]; omega⟩)
    congr 1
    apply Fin.ext
    show k0_off1 i 0 + k.val = k.val
    rw [(off1_eq i).1]; omega
  revert hL
  generalize View.ld x0 _ = L
  intro hL
  obtain ⟨t, ht⟩ := t
  interval_cases t <;> dsimp only [List.getElem_cons_succ, List.getElem_cons_zero]
  all_goals
    pointwise [k0_pay1, k0_pay2, k0_pay3, k0_pay6, k0_pay7, k0_pay8, k0_pay9, k0_pay10, k0_pay11, k0_pay12, k0_pay13, k0_pay14, k0_pay15, k0_pay16, k0_pay17, k0_pay18, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58]
    simp only [hm, hL, row_word _ hp, col_word _ hp, sge_one _ hh, sge_one _ hw, sle_62 _ hh, sle_62 _ hw, select_and, select_one]
  all_goals first
    | exact ite_padded_mul V k _ _ _ _ _ _ hi ht hp (by unfold inPlane; omega) (by omega)
    | exact congrArg (· * _) (padded_eq V k _ _ _ _ hi ht hp (by unfold inPlane; omega) (by omega))

end Cert.Dyn

end
-- ==== Proof.DynKernel.lean ====
/-  The dynamic convolution's result array, read from the launch's arguments. -/
module

public import proofs.«01_k».proof.Proof.Dyn

@[expose] public section

set_option maxRecDepth 16384

noncomputable section

open Idealize.ShloMosaic Idealize.ShloMosaic.TcCoe Idealize.SL.Sem

namespace Cert.Dyn

open Cert.KernelIdeal Cert.KernelIdeal.Gen Cert.Taps

variable (m : (ℓ : Loc nD τ sig) → Buf (Elt Ideal) ℓ) (c : Dev nD)

/-- The arguments of the launch, by name. -/
abbrev aYn : Vec Ideal S64x16x4096 .f32 := m ((c : Thread nD τ).loc main_arg0)
abbrev aAsg : Vec Ideal S64x4096 .i32 := m ((c : Thread nD τ).loc main_arg1)
abbrev aMod : Vec Ideal S27x4 .f32 := m ((c : Thread nD τ).loc main_arg2)
abbrev aBv : Vec Ideal S16x4 .f32 := m ((c : Thread nD τ).loc main_arg3)
abbrev aW : Vec Ideal S16x16x27 .f32 := m ((c : Thread nD τ).loc main_arg4)
abbrev aX : Vec Ideal S1x16x64x64x64 .f32 := m ((c : Thread nD τ).loc main_arg5)
abbrev aA : Vec Ideal S_ .f32 := m ((c : Thread nD τ).loc main_arg6)

/-- The padding value: the integer zero, converted. -/
theorem sitofp_zero : sitofp (F := Idealize.ShloMosaic.Ideal) .f32 (constantI S_ 32 0#32) (Shape.Idx.first h_S_) = 0 := by
  show (((0#32 : BitVec 32).toInt : ℝ) : EReal) = 0
  simp

theorem V_v3 (k : Fin 16) (q : Fin 278528) : (V m c main_v3 : Vec Ideal S16x278528 .f32) (ix2 k q) = padded (vol (aYn m c)) k q.val := by
  have h : (V m c main_v3 : Vec Ideal S16x278528 .f32) = pad S16x278528 ![0, 8192] ![0, 8192] ![0, 0]
      (shapeCast S16x262144 (transpose S16x64x4096 [1, 0, 2] (aYn m c) transposes_S64x16x4096_S16x64x4096_1_0_2) shapeCasts_S16x64x4096_S16x262144)
      (sitofp (F := Ideal) .f32 (constantI S_ 32 0#32)) pads_S16x262144_S16x278528_000_819281920 h_S_ := by
    dsimp only [V, V0]
    simp only [hostOps0, hostOps0_1, hostOps0_2, List.flatten_cons, List.flatten_nil, List.append_nil, List.cons_append, List.nil_append]
    after_results
    rfl
  rw [h]
  refine pad_flat _ _ _ _ sitofp_zero _ (fun k q => ?_) k q
  rw [vol, dif_pos q.isLt]
  pointwise

theorem V_v5 (o : Fin 16) (t : ℕ) (ht : t < 27) (k : Fin 16) :
    (V m c main_v5 : Vec Ideal S16x432 .f32) (ix2 o ⟨16 * t + k.val, by omega⟩) = aW m c (ix3 o k ⟨t, ht⟩) := by
  have h : (V m c main_v5 : Vec Ideal S16x432 .f32) = shapeCast S16x432 (transpose S16x27x16 [0, 2, 1] (aW m c) transposes_S16x16x27_S16x27x16_0_2_1) shapeCasts_S16x27x16_S16x432 := by
    dsimp only [V, V0]
    simp only [hostOps0, hostOps0_1, hostOps0_2, List.flatten_cons, List.flatten_nil, List.append_nil, List.cons_append, List.nil_append]
    after_results
    rfl
  rw [h]
  pointwise
  exact congrArg (aW m c) (congrArg (ix3 o k) (Fin.ext (by show (16 * t + k.val) / 16 = t; omega)))

theorem V_v6 (i : Fin 64) (p : Fin 4096) :
    (V m c main_v6 : Vec Ideal S64x1x4096 .i32) (ix3 i 0 p) = aAsg m c (ix2 i p) := by
  have h : (V m c main_v6 : Vec Ideal S64x1x4096 .i32) = shapeCast S64x1x4096 (aAsg m c) shapeCasts_S64x4096_S64x1x4096 := by
    dsimp only [V, V0]
    simp only [hostOps0, hostOps0_1, hostOps0_2, List.flatten_cons, List.flatten_nil, List.append_nil, List.cons_append, List.nil_append]
    after_results
    rfl
  rw [h]
  pointwise

theorem V_v8 (i : Fin 64) (o : Fin 16) (p : Fin 4096) :
    (V m c main_v8 : Vec Ideal S64x16x4096 .f32) (ix3 i o p) = aX m c (ix5 0 o i ⟨p.val / 64, by omega⟩ ⟨p.val % 64, by omega⟩) := by
  have h : (V m c main_v8 : Vec Ideal S64x16x4096 .f32) = transpose S64x16x4096 [1, 0, 2] (shapeCast S16x64x4096 (shapeCast S16x262144 (aX m c) shapeCasts_S1x16x64x64x64_S16x262144) shapeCasts_S16x262144_S16x64x4096) transposes_S16x64x4096_S64x16x4096_1_0_2 := by
    dsimp only [V, V0]
    simp only [hostOps0, hostOps0_1, hostOps0_2, List.flatten_cons, List.flatten_nil, List.append_nil, List.cons_append, List.nil_append]
    after_results
    rfl
  rw [h]
  pointwise

theorem V_v9 : (V m c main_v9 : Vec Ideal S1x1 .f32) (ix2 0 0) = aA m c ix0 := by
  have h : (V m c main_v9 : Vec Ideal S1x1 .f32) = shapeCast S1x1 (aA m c) shapeCasts_S_S1x1 := by
    dsimp only [V, V0]
    simp only [hostOps0, hostOps0_1, hostOps0_2, List.flatten_cons, List.flatten_nil, List.append_nil, List.cons_append, List.nil_append]
    after_results
    rfl
  rw [h]
  pointwise

/-- The result array before it is laid out as a volume: plane, output channel, lane. -/
def G : Vec Ideal S64x16x4096 .f32 := fun y =>
  prelu (aA m c ix0) (∑ t : Fin 27, ∑ k : Fin 16, aW m c (ix3 (y 1) k t)
      * (tap (vol (aYn m c)) (y 0).val t.val k (y 2).val * pick (fun j => aMod m c (ix2 t j)) (aAsg m c (ix2 (y 0) (y 2))))
    + pick (fun j => aBv m c (ix2 (y 1) j)) (aAsg m c (ix2 (y 0) (y 2))))
  + aX m c (ix5 0 (y 1) (y 0) ⟨(y 2).val / 64, by have : (y 2).val < 4096 := (y 2).isLt; omega⟩ ⟨(y 2).val % 64, by omega⟩)

theorem G_apply (i : Fin 64) (o : Fin 16) (p : Fin 4096) : G m c (ix3 i o p)
    = prelu (aA m c ix0) (∑ t : Fin 27, ∑ k : Fin 16, aW m c (ix3 o k t)
        * (tap (vol (aYn m c)) i.val t.val k p.val * pick (fun j => aMod m c (ix2 t j)) (aAsg m c (ix2 i p)))
      + pick (fun j => aBv m c (ix2 o j)) (aAsg m c (ix2 i p)))
    + aX m c (ix5 0 o i ⟨p.val / 64, by omega⟩ ⟨p.val % 64, by omega⟩) := rfl

/-- The plane a grid point works on. -/
def plane (t : Fin cfg0.N) : Fin 64 := ⟨(grid0.coords t 0).val, (grid0.coords t 0).isLt⟩

/-- Where every window's block lies. -/
theorem idx : ∀ t : Fin cfg0.N, win0_0.index t = ![0, 0] ∧ win0_1.index t = ![(grid0.coords t 0).val, 0, 0]
    ∧ win0_2.index t = ![0, 0] ∧ win0_3.index t = ![0, 0] ∧ win0_4.index t = ![0, 0]
    ∧ win0_5.index t = ![(grid0.coords t 0).val, 0, 0] ∧ win0_6.index t = ![0, 0]
    ∧ win0_7.index t = ![(grid0.coords t 0).val, 0, 0] :=
  (by decide +kernel : ∀ t : Fin grid0.N, _)

theorem blk0 (t : Fin cfg0.N) (k : Fin 16) (q : Fin 278528) : (iblk m c 0 t : Vec Ideal S16x278528 .f32) (ix2 k q) = (V m c main_v3 : Vec Ideal S16x278528 .f32) (ix2 k q) := by
  blk_ext [iblk, idx t, plane]
theorem blk1 (t : Fin cfg0.N) (p : Fin 4096) : (iblk m c 1 t : Vec Ideal S1x1x4096 .i32) (ix3 0 0 p) = aAsg m c (ix2 (plane t) p) := by
  refine Eq.trans ?_ (V_v6 m c (plane t) p)
  blk_ext [iblk, idx t, plane]
theorem blk2 (t : Fin cfg0.N) (p : Fin 27) (j : Fin 4) : (iblk m c 2 t : Vec Ideal S27x4 .f32) (ix2 p j) = aMod m c (ix2 p j) := by
  rw [aMod, ← V_main_arg2 m c]
  blk_ext [iblk, idx t, plane]
theorem blk3 (t : Fin cfg0.N) (p : Fin 16) (j : Fin 4) : (iblk m c 3 t : Vec Ideal S16x4 .f32) (ix2 p j) = aBv m c (ix2 p j) := by
  rw [aBv, ← V_main_arg3 m c]
  blk_ext [iblk, idx t, plane]
theorem blk4 (t : Fin cfg0.N) (o : Fin 16) (q : Fin 432) : (iblk m c 4 t : Vec Ideal S16x432 .f32) (ix2 o q) = (V m c main_v5 : Vec Ideal S16x432 .f32) (ix2 o q) := by
  blk_ext [iblk, idx t, plane]
theorem blk5 (t : Fin cfg0.N) (o : Fin 16) (p : Fin 4096) : (iblk m c 5 t : Vec Ideal S1x16x4096 .f32) (ix3 0 o p) = aX m c (ix5 0 o (plane t) ⟨p.val / 64, by omega⟩ ⟨p.val % 64, by omega⟩) := by
  refine Eq.trans ?_ (V_v8 m c (plane t) o p)
  blk_ext [iblk, idx t, plane]
theorem blk6 (t : Fin cfg0.N) : (iblk m c 6 t : Vec Ideal S1x1 .f32) (ix2 0 0) = aA m c ix0 := by
  refine Eq.trans ?_ (V_v9 m c)
  blk_ext [iblk, idx t, plane]

/-- What a grid point stores at a channel and a lane is `G` there. -/
theorem stored (t : Fin cfg0.N) (o : Fin 16) (p : Fin 4096) :
    (outsAt0 m c t : Vec Ideal S1x16x4096 .f32) (ix3 0 o p) = G m c (ix3 (plane t) o p) := by
  unfold outsAt0
  rw [out_apply (V := vol (aYn m c)) (hx0 := fun k q => (blk0 m c t k q).trans (V_v3 m c k q)), G_apply]
  simp only [blk1, blk2, blk3, blk4, blk5, blk6, V_v5 m c _ _ (Fin.isLt _)]
  rfl

/-- After the last grid point the result array is `G`. -/
theorem arr : (dats (F := Idealize.ShloMosaic.Ideal) m 0 c).arrAt 7 cfg0.N = G m c := by
  refine (dats m 0 c).arrAt_eq_of_covers 7 _ (by decide +kernel) fun t hf y => ?_
  blk_simp
  rw [after0_7]
  have hy : y = (ix3 0 (y 1) (y 2) : S1x16x4096.Idx) := by blk_ext
  have he : (win0_7.blk t).view.emb y = (ix3 (plane t) (y 1) (y 2) : S64x16x4096.Idx) := by blk_ext [idx t, plane]
  rw [he]
  exact (congrArg (outsAt0 m c t) hy).trans (stored m c t (y 1) (y 2))

/-- The result laid out as a volume. -/
def OUT : Vec Ideal S1x16x64x64x64 .f32 :=
  shapeCast S1x16x64x64x64 (transpose S16x64x4096 [1, 0, 2] (G m c) transposes_S64x16x4096_S16x64x4096_1_0_2) shapeCasts_S16x64x4096_S1x16x64x64x64

theorem OUT_apply (o : Fin 16) (d h w : Fin 64) : OUT m c (ix5 0 o d h w) = G m c (ix3 d o ⟨h.val * 64 + w.val, by omega⟩) := by
  pointwise [OUT]

/-- What the host lines after the call leave in the result buffer. -/
theorem tail_v12 : Pipeline.afterTail₀ cfgs (dats (F := Idealize.ShloMosaic.Ideal) m) 0 (V0 m) [hostOps1] c main_v12 = OUT m c := by
  unfold Pipeline.afterTail₀
  have hv : Pipeline.withArrays (cfgs 0).spec c (V0 m c) (fun w => (dats (F := Idealize.ShloMosaic.Ideal) m 0 c).arrAt w (cfgs 0).N) (Proc.devRef .tc main_v10) = G m c :=
    (Pipeline.withArrays_arr (cfgs 0).spec launch0.win.arr_inj c (V0 m c) (fun w => (dats m 0 c).arrAt w (cfgs 0).N) 7).trans (arr m c)
  simp only [hostOps1, List.flatten_cons, List.flatten_nil, List.append_nil]
  after_results
  rw [hv]
  rfl

/-- The run: the result is `OUT`, the arguments are unchanged. -/
theorem run (ρ : Dev nD → PrngReg) : θ_run defs (onTc (τ := τ) (main (F := Idealize.ShloMosaic.Ideal))) ⟨m, fun _ => 0, ρ⟩ (fun r => ∀ c : Dev nD,
    r.2.mem ((c.tc : Thread nD τ).loc main_v12) = OUT m c) :=
  (θ_run defs _ _).mono (fun _ h c => ((h c).2 main_v12 (Pipeline.mem_restRefs_of main_v12 (by decide) (by decide))).trans (tail_v12 m c)) (run_main m ρ)

end Cert.Dyn

end
-- ==== Proof.DynRef.lean ====
/-  The plain dynamic convolution read at a voxel. -/
module

public import proofs.«01_k».proof.Proof.Gen.ReferenceIdeal.Run
public import proofs.«01_k».proof.Proof.Taps
public import Idealize.ShloMosaic.Lib.Pointwise
public import Idealize.ShloMosaic.Lib.Routing.Ops
public import Idealize.ShloMosaic.Lib.Routing.OpsPair

@[expose] public section

set_option maxRecDepth 16384

noncomputable section

open Idealize.ShloMosaic Idealize.ShloMosaic.TcCoe Idealize.SL.Sem

namespace Cert.DynRef

open Cert.ReferenceIdeal Cert.ReferenceIdeal.Gen Cert.ReferenceIdeal.Value Cert.Taps

/-- One shifted view of the padded cube, as a block of the stack. -/
def piece (P : Vec Ideal S1x16x66x66x66 .f32) (v : Fin 5 → ℕ) (h : S1x16x66x66x66.Slices v S1x16x64x64x64) : Vec Ideal S1x16x1x64x64x64 .f32 :=
  broadcastInDim S1x16x1x64x64x64 ![0, 1, 3, 4, 5] bcast_S1x16x64x64x64_S1x16x1x64x64x64_0_1_3_4_5 (extractStridedSlice S1x16x64x64x64 v P h)

/-- The stack of the 27 shifted views. -/
def stack (P : Vec Ideal S1x16x66x66x66 .f32) : Vec Ideal S1x16x27x64x64x64 .f32 :=
  fn_main_v59 (F := Ideal)
    (fn_main_v57 (F := Ideal)
      (piece P ![0, 0, 0, 0, 0] slices_S1x16x66x66x66_S1x16x64x64x64_0_0_0_0_0) (piece P ![0, 0, 0, 0, 1] slices_S1x16x66x66x66_S1x16x64x64x64_0_0_0_0_1) (piece P ![0, 0, 0, 0, 2] slices_S1x16x66x66x66_S1x16x64x64x64_0_0_0_0_2)
      (piece P ![0, 0, 0, 1, 0] slices_S1x16x66x66x66_S1x16x64x64x64_0_0_0_1_0) (piece P ![0, 0, 0, 1, 1] slices_S1x16x66x66x66_S1x16x64x64x64_0_0_0_1_1) (piece P ![0, 0, 0, 1, 2] slices_S1x16x66x66x66_S1x16x64x64x64_0_0_0_1_2)
      (piece P ![0, 0, 0, 2, 0] slices_S1x16x66x66x66_S1x16x64x64x64_0_0_0_2_0) (piece P ![0, 0, 0, 2, 1] slices_S1x16x66x66x66_S1x16x64x64x64_0_0_0_2_1) (piece P ![0, 0, 0, 2, 2] slices_S1x16x66x66x66_S1x16x64x64x64_0_0_0_2_2)
      (piece P ![0, 0, 1, 0, 0] slices_S1x16x66x66x66_S1x16x64x64x64_0_0_1_0_0) (piece P ![0, 0, 1, 0, 1] slices_S1x16x66x66x66_S1x16x64x64x64_0_0_1_0_1) (piece P ![0, 0, 1, 0, 2] slices_S1x16x66x66x66_S1x16x64x64x64_0_0_1_0_2)
      (piece P ![0, 0, 1, 1, 0] slices_S1x16x66x66x66_S1x16x64x64x64_0_0_1_1_0) (piece P ![0, 0, 1, 1, 1] slices_S1x16x66x66x66_S1x16x64x64x64_0_0_1_1_1) (piece P ![0, 0, 1, 1, 2] slices_S1x16x66x66x66_S1x16x64x64x64_0_0_1_1_2)
      (piece P ![0, 0, 1, 2, 0] slices_S1x16x66x66x66_S1x16x64x64x64_0_0_1_2_0))
    (fn_main_v58 (F := Ideal)
      (piece P ![0, 0, 1, 2, 1] slices_S1x16x66x66x66_S1x16x64x64x64_0_0_1_2_1) (piece P ![0, 0, 1, 2, 2] slices_S1x16x66x66x66_S1x16x64x64x64_0_0_1_2_2) (piece P ![0, 0, 2, 0, 0] slices_S1x16x66x66x66_S1x16x64x64x64_0_0_2_0_0)
      (piece P ![0, 0, 2, 0, 1] slices_S1x16x66x66x66_S1x16x64x64x64_0_0_2_0_1) (piece P ![0, 0, 2, 0, 2] slices_S1x16x66x66x66_S1x16x64x64x64_0_0_2_0_2) (piece P ![0, 0, 2, 1, 0] slices_S1x16x66x66x66_S1x16x64x64x64_0_0_2_1_0)
      (piece P ![0, 0, 2, 1, 1] slices_S1x16x66x66x66_S1x16x64x64x64_0_0_2_1_1) (piece P ![0, 0, 2, 1, 2] slices_S1x16x66x66x66_S1x16x64x64x64_0_0_2_1_2) (piece P ![0, 0, 2, 2, 0] slices_S1x16x66x66x66_S1x16x64x64x64_0_0_2_2_0)
      (piece P ![0, 0, 2, 2, 1] slices_S1x16x66x66x66_S1x16x64x64x64_0_0_2_2_1) (piece P ![0, 0, 2, 2, 2] slices_S1x16x66x66x66_S1x16x64x64x64_0_0_2_2_2))

theorem stack_apply (P : Vec Ideal S1x16x66x66x66 .f32) (k : Fin 16) (t : Fin 27) (d h w : Fin 64) :
    stack P (ix6 0 k t d h w) = P (ix5 0 k ⟨t.val / 9 + d.val, by omega⟩ ⟨t.val / 3 % 3 + h.val, by omega⟩ ⟨t.val % 3 + w.val, by omega⟩) := by
  obtain ⟨t, ht⟩ := t
  interval_cases t
  all_goals
    pointwise [stack, fn_main_v57, fn_main_v58, fn_main_v59, piece]

/-- The activation laid out as a cube with a layer of zeros around it. -/
def cube (yn : Vec Ideal S64x16x4096 .f32) : Vec Ideal S1x16x66x66x66 .f32 :=
  pad S1x16x66x66x66 ![0, 0, 1, 1, 1] ![0, 0, 1, 1, 1] ![0, 0, 0, 0, 0]
    (shapeCast S1x16x64x64x64 (transpose S16x64x4096 [1, 0, 2] yn transposes_S64x16x4096_S16x64x4096_1_0_2) shapeCasts_S16x64x4096_S1x16x64x64x64)
    (sitofp (F := Ideal) .f32 (constantI S_ 32 0#32)) pads_S1x16x64x64x64_S1x16x66x66x66_000_000_110_110_110 h_S_

/-- The voxels' cluster numbers as row numbers of a table of four rows (a negative one would count from the end). -/
def rows (asg : Vec Ideal S64x4096 .i32) : IVec S262144x1 32 :=
  broadcastInDim S262144x1 ![0] bcast_S262144_S262144x1_0
    (select (cmpi .slt (shapeCast S262144 asg shapeCasts_S64x4096_S262144) (broadcastInDim S262144 ![] bcast_S_S262144 (constantI S_ 32 0#32)))
      (addi (shapeCast S262144 asg shapeCasts_S64x4096_S262144) (broadcastInDim S262144 ![] bcast_S_S262144 (constantI S_ 32 4#32)))
      (shapeCast S262144 asg shapeCasts_S64x4096_S262144))

/-- The contraction over taps and input channels, from a stack of shifted views. -/
def conv (St : Vec Ideal S1x16x27x64x64x64 .f32) (M : Vec Ideal S262144x27 .f32) (w : Vec Ideal S16x16x27 .f32) : Vec Ideal S16x1x262144 .f32 :=
  Host.dotGeneral (F := Ideal) (φ₁ := .f32) dot_S16x16x27_S1x16x27x262144_S16x1x262144_12_12_0_03_n_n none w
    (mulf (F := Ideal) (φ := .f32) (shapeCast S1x16x27x262144 St shapeCasts_S1x16x27x64x64x64_S1x16x27x262144)
      (broadcastInDim S1x16x27x262144 ![0, 1, 2, 3] bcast_S1x1x27x262144_S1x16x27x262144_0_1_2_3
        (broadcastInDim S1x1x27x262144 ![2, 3] bcast_S27x262144_S1x1x27x262144_2_3
          (transpose S27x262144 [1, 0] M transposes_S262144x27_S27x262144_1_0))))

/-- The whole of the plain program, from the contraction on. -/
def tail (D : Vec Ideal S16x1x262144 .f32) (B : Vec Ideal S262144x16 .f32) (a : Vec Ideal S_ .f32) (x : Vec Ideal S1x16x64x64x64 .f32) : Vec Ideal S1x16x64x64x64 .f32 :=
  let z : FVec Ideal S1x16x64x64x64 .f32 := shapeCast S1x16x64x64x64 (addf (F := Ideal) (φ := .f32) (transpose S1x16x262144 [1, 0, 2] D transposes_S16x1x262144_S1x16x262144_1_0_2)
    (broadcastInDim S1x16x262144 ![1, 2] bcast_S16x262144_S1x16x262144_1_2 (transpose S16x262144 [1, 0] B transposes_S262144x16_S16x262144_1_0))) shapeCasts_S1x16x262144_S1x16x64x64x64
  addf (F := Ideal) (φ := .f32) (select (cmpf .oge z (broadcastInDim S1x16x64x64x64 ![] bcast_S_S1x16x64x64x64 (constant S_ .f32 0x00000000#32))) z
    (mulf (F := Ideal) (φ := .f32) (broadcastInDim S1x16x64x64x64 ![] bcast_S_S1x16x64x64x64 a) z)) x

variable (m : (ℓ : Loc nD τ sig) → Buf (Elt Ideal) ℓ) (c : Dev nD)

/-- The arguments of the launch, by name. -/
abbrev aYn : Vec Ideal S64x16x4096 .f32 := m ((c : Thread nD τ).loc main_arg0)
abbrev aAsg : Vec Ideal S64x4096 .i32 := m ((c : Thread nD τ).loc main_arg1)
abbrev aMod : Vec Ideal S27x4 .f32 := m ((c : Thread nD τ).loc main_arg2)
abbrev aBv : Vec Ideal S16x4 .f32 := m ((c : Thread nD τ).loc main_arg3)
abbrev aW : Vec Ideal S16x16x27 .f32 := m ((c : Thread nD τ).loc main_arg4)
abbrev aX : Vec Ideal S1x16x64x64x64 .f32 := m ((c : Thread nD τ).loc main_arg5)
abbrev aA : Vec Ideal S_ .f32 := m ((c : Thread nD τ).loc main_arg6)

set_option maxHeartbeats 4000000 in
theorem res_eq : res_out0 (F := Ideal) m c
    = tail (conv (stack (cube (aYn m c)))
        (Host.gather gather_S4x27_S262144x1_S262144x27_1_0_n_n_0_1_127 (transpose S4x27 [1, 0] (aMod m c) transposes_S27x4_S4x27_1_0) (rows (aAsg m c)))
        (aW m c))
      (Host.gather gather_S4x16_S262144x1_S262144x16_1_0_n_n_0_1_116 (transpose S4x16 [1, 0] (aBv m c) transposes_S16x4_S4x16_1_0) (rows (aAsg m c)))
      (aA m c) (aX m c) := by
  rfl

/-- The flat number of a voxel. -/
def vox (d h w : Fin 64) : Fin 262144 := ⟨d.val * 4096 + h.val * 64 + w.val, by omega⟩

theorem tail_apply (D : Vec Ideal S16x1x262144 .f32) (B : Vec Ideal S262144x16 .f32) (a : Vec Ideal S_ .f32) (x : Vec Ideal S1x16x64x64x64 .f32)
    (o : Fin 16) (d h w : Fin 64) : tail D B a x (ix5 0 o d h w)
      = (if 0 ≤ D (ix3 o 0 (vox d h w)) + B (ix2 (vox d h w) o) then D (ix3 o 0 (vox d h w)) + B (ix2 (vox d h w) o)
          else a ix0 * (D (ix3 o 0 (vox d h w)) + B (ix2 (vox d h w) o))) + x (ix5 0 o d h w) := by
  pointwise [tail]
  rfl

theorem conv_apply (St : Vec Ideal S1x16x27x64x64x64 .f32) (M : Vec Ideal S262144x27 .f32) (wt : Vec Ideal S16x16x27 .f32)
    (o : Fin 16) (d h w : Fin 64) : conv St M wt (ix3 o 0 (vox d h w))
      = ∑ k : Fin 16, ∑ t : Fin 27, wt (ix3 o k t) * (St (ix6 0 k t d h w) * M (ix2 (vox d h w) t)) := by
  have e1 : (⟨(vox d h w).val / 4096, by omega⟩ : Fin 64) = d := Fin.ext (by show (d.val * 4096 + h.val * 64 + w.val) / 4096 = d.val; omega)
  have e2 : (⟨(vox d h w).val / 64 % 64, by omega⟩ : Fin 64) = h := Fin.ext (by show (d.val * 4096 + h.val * 64 + w.val) / 64 % 64 = h.val; omega)
  have e3 : (⟨(vox d h w).val % 64, by omega⟩ : Fin 64) = w := Fin.ext (by show (d.val * 4096 + h.val * 64 + w.val) % 64 = w.val; omega)
  pointwise [conv]
  refine Finset.sum_congr rfl fun k _ => Finset.sum_congr rfl fun t _ => ?_
  have e : ix6 (0 : Fin 1) k t (⟨(vox d h w).val / 4096, by omega⟩ : Fin 64) (⟨(vox d h w).val / 64 % 64, by omega⟩ : Fin 64)
      (⟨(vox d h w).val % 64, by omega⟩ : Fin 64) = ix6 0 k t d h w := by rw [e1, e2, e3]
  exact congrArg (fun i => wt (ix3 o k t) * (St i * M (ix2 (vox d h w) t))) e

theorem rows_apply (asg : Vec Ideal S64x4096 .i32) (d h w : Fin 64) (j : Fin 4) (hj : asg (ix2 d ⟨h.val * 64 + w.val, by omega⟩) = BitVec.ofNat 32 j.val) :
    rows asg (ix2 (vox d h w) (0 : Fin 1)) = BitVec.ofNat 32 j.val := by
  have e1 : (⟨(vox d h w).val / 4096, by omega⟩ : Fin 64) = d := Fin.ext (by show (d.val * 4096 + h.val * 64 + w.val) / 4096 = d.val; omega)
  have e2 : (⟨(vox d h w).val % 4096, by omega⟩ : Fin 4096) = ⟨h.val * 64 + w.val, by omega⟩ :=
    Fin.ext (by show (d.val * 4096 + h.val * 64 + w.val) % 4096 = h.val * 64 + w.val; omega)
  pointwise [rows]
  rw [e1, e2, hj]
  exact Routing.wrap_of_lt _ _ (by rw [BitVec.toNat_ofNat]; omega)

theorem cube_apply (yn : Vec Ideal S64x16x4096 .f32) (k : Fin 16) (d h w : Fin 66) :
    cube yn (ix5 0 k d h w) = at3 (vol yn) k d.val h.val w.val := by
  refine pad_cube _ _ _ _ ?_ (vol yn) (fun k d h w => ?_) k d h w
  · show (((0#32 : BitVec 32).toInt : ℝ) : EReal) = 0
    simp
  · rw [← vol_apply]
    pointwise

/-- A shifted view at a voxel is the tap there. -/
theorem stack_tap (yn : Vec Ideal S64x16x4096 .f32) (k : Fin 16) (t : Fin 27) (d h w : Fin 64) :
    stack (cube yn) (ix6 0 k t d h w) = tap (vol yn) d.val t.val k (h.val * 64 + w.val) := by
  rw [stack_apply, cube_apply]
  unfold tap
  have e1 : (h.val * 64 + w.val) / 64 = h.val := by omega
  have e2 : (h.val * 64 + w.val) % 64 = w.val := by omega
  rw [e1, e2, Nat.add_comm d.val, Nat.add_comm h.val, Nat.add_comm w.val]

/-- The plain program's result at a voxel whose cluster is `j`. -/
theorem res_apply (o : Fin 16) (d h w : Fin 64) (j : Fin 4)
    (hj : aAsg m c (ix2 d ⟨h.val * 64 + w.val, by omega⟩) = BitVec.ofNat 32 j.val)
    (z : EReal) (hz : z = (∑ k : Fin 16, ∑ t : Fin 27, aW m c (ix3 o k t)
      * (tap (vol (aYn m c)) d.val t.val k (h.val * 64 + w.val)
        * aMod m c (ix2 t j))) + aBv m c (ix2 o j)) :
    (res_out0 (F := Ideal) m c : Vec Ideal S1x16x64x64x64 .f32) (ix5 0 o d h w)
      = (if 0 ≤ z then z else aA m c ix0 * z)
        + aX m c (ix5 0 o d h w) := by
  have hb := rows_apply _ d h w j hj
  have hM : ∀ t : Fin 27, Host.gather gather_S4x27_S262144x1_S262144x27_1_0_n_n_0_1_127 (transpose S4x27 [1, 0] (aMod m c) transposes_S27x4_S4x27_1_0) (rows (aAsg m c)) (ix2 (vox d h w) t)
      = aMod m c (ix2 t j) := fun t =>
    (Routing.gather_row _ rfl rfl rfl rfl rfl _ _ (vox d h w) t j hb (by norm_num)).trans (by pointwise)
  have hB : Host.gather gather_S4x16_S262144x1_S262144x16_1_0_n_n_0_1_116 (transpose S4x16 [1, 0] (aBv m c) transposes_S16x4_S4x16_1_0) (rows (aAsg m c)) (ix2 (vox d h w) o)
      = aBv m c (ix2 o j) :=
    (Routing.gather_row _ rfl rfl rfl rfl rfl _ _ (vox d h w) o j hb (by norm_num)).trans (by pointwise)
  rw [res_eq, tail_apply, conv_apply, hB]
  simp only [hM, stack_tap]
  rw [← hz]

end Cert.DynRef

end
-- ==== Proof.DynEq.lean ====
/-  The kernel's dynamic convolution and the plain one, from the same arguments, are the same array. -/
module

public import proofs.«01_k».proof.Proof.DynKernel
public import proofs.«01_k».proof.Proof.DynRef

@[expose] public section

set_option maxRecDepth 16384

noncomputable section

open Idealize.ShloMosaic Idealize.ShloMosaic.TcCoe Idealize.SL.Sem

namespace Cert.DynEq

open Cert.Taps

/-- A word between 0 and 3 names one of the four clusters. -/
theorem exists_cluster (v : BitVec 32) (h : IntOp.andi (IntOp.cmpi .sge v 0#32) (IntOp.cmpi .slt v 4#32) = 1#1) :
    ∃ j : Fin 4, v = BitVec.ofNat 32 j.val := by
  have hv : v.toNat < 4 := by
    have one : ∀ p q : Bool, IntOp.andi (BitVec.ofBool p) (BitVec.ofBool q) = 1#1 → p = true ∧ q = true := by decide
    obtain ⟨h0, h4⟩ := one _ _ h
    simp only [BitVec.sle_eq_decide, BitVec.slt_eq_decide, decide_eq_true_eq, BitVec.toInt_eq_toNat_cond,
      BitVec.toNat_ofNat, Nat.reducePow, Nat.reduceMod] at h0 h4
    omega
  exact ⟨⟨v.toNat, hv⟩, by simp⟩

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

/-- Where every voxel's word names a cluster, the two results agree. -/
theorem out_eq (h0 : DynRef.aYn m' c = Dyn.aYn m c) (h1 : DynRef.aAsg m' c = Dyn.aAsg m c) (h2 : DynRef.aMod m' c = Dyn.aMod m c)
    (h3 : DynRef.aBv m' c = Dyn.aBv m c) (h4 : DynRef.aW m' c = Dyn.aW m c) (h5 : DynRef.aX m' c = Dyn.aX m c) (h6 : DynRef.aA m' c = Dyn.aA m c)
    (hasg : ∀ (d : Fin 64) (p : Fin 4096), ∃ j : Fin 4, Dyn.aAsg m c (ix2 d p) = BitVec.ofNat 32 j.val) :
    Cert.ReferenceIdeal.Value.res_out0 (F := Ideal) m' c = Dyn.OUT m c := by
  funext i
  obtain ⟨u, o, d, h, w, rfl⟩ : ∃ (u : Fin 1) (o : Fin 16) (d h w : Fin 64), i = ix5 u o d h w := ⟨_, _, _, _, _, (ix5_eta i).symm⟩
  obtain rfl : u = 0 := Subsingleton.elim _ _
  have hp : h.val * 64 + w.val < 4096 := by omega
  obtain ⟨j, hj⟩ := hasg d ⟨h.val * 64 + w.val, hp⟩
  refine (DynRef.res_apply m' c o d h w j (by rw [h1]; exact hj) _ rfl).trans ?_
  rw [Dyn.OUT_apply, Dyn.G_apply, hj, Dyn.pick_of, h0, h2, h3, h4, h5, h6]
  simp only [Dyn.pick_of, Dyn.prelu]
  rw [Finset.sum_comm]
  have e1 : (⟨(h.val * 64 + w.val) / 64, by omega⟩ : Fin 64) = h := Fin.ext (by show (h.val * 64 + w.val) / 64 = h.val; omega)
  have e2 : (⟨(h.val * 64 + w.val) % 64, by omega⟩ : Fin 64) = w := Fin.ext (by show (h.val * 64 + w.val) % 64 = w.val; omega)
  rw [e1, e2]

end Cert.DynEq

end
-- ==== Proof.ProjBlk.lean ====
/-  What one grid point of the projection stores: the projected plane, and each channel's two sums over it. -/
module

public import proofs.«01_k».proof.Proof.Gen.ProjectIdeal.Frame
public import proofs.«01_k».proof.Proof.Taps
public import proofs.«01_k».proof.Proof.Words
public import Idealize.ShloMosaic.Lib.Pipeline.ValueKit

@[expose] public section

set_option maxRecDepth 16384

noncomputable section

open Idealize.ShloMosaic Idealize.ShloMosaic.TcCoe Idealize.SL.Sem

namespace Cert.ProjBlk

open Cert.ProjectIdeal Cert.ProjectIdeal.Gen Cert.Taps

/-- The body's window of the padded row starts 4224 before the plane. -/
theorem off1_eq (i : grid0.Coords) : k0_off1 i 0 = 0 ∧ k0_off1 i 1 = 3968 + 4096 * (i 0).val := by
  have : ∀ j : Fin 64, (Scalar.indexCast (Scalar.subi (Scalar.addi 8192#32 (Scalar.muli (BitVec.ofNat 32 j.val) 4096#32)) 4224#32)).toNat = 3968 + 4096 * j.val := by
    decide +kernel
  exact ⟨rfl, this (i 0)⟩

/-- The plane stored, at output channel `o` and lane `p`, when the first operand is the padded row of the volume `V`. -/
theorem plane_apply (c : Dev nD) (i : grid0.Coords) (arg1 : Memref sig .tc .vmem S16x278528 .f32) (harg1 : arg1.IsWhole) (arg2 : Memref sig .tc .vmem S16x432 .f32) (harg2 : arg2.IsWhole) (arg3 : Memref sig .tc .vmem S16x1 .f32) (harg3 : arg3.IsWhole) (arg4 : Memref sig .tc .vmem S1x16x4096 .f32) (harg4 : arg4.IsWhole) (arg5 : Memref sig .tc .vmem S1x16x2 .f32) (harg5 : arg5.IsWhole)
    (x0 : Vec Ideal S16x278528 .f32) (x1 : Vec Ideal S16x432 .f32) (x2 : Vec Ideal S16x1 .f32)
    (V : Fin 16 → ℕ → EReal) (hx0 : ∀ (k : Fin 16) (q : Fin 278528), x0 (ix2 k q) = padded V k q.val) (o : Fin 16) (p : Fin 4096) :
    out0_A_3 c i arg1 harg1 arg2 harg2 arg3 harg3 arg4 harg4 arg5 harg5 x0 x1 x2 (ix3 0 o p)
      = (∑ t : Fin 27, ∑ k : Fin 16, x1 (ix2 o ⟨16 * t.val + k.val, by omega⟩) * tap V (i 0).val t.val k p.val) + x2 (ix2 o 0) := by
  have hi : (i 0).val < 64 := (i 0).isLt
  have hp : p.val < 4096 := p.isLt
  have hh : p.val / 64 < 4096 := by omega
  have hw : p.val % 64 < 4096 := by omega
  frame_out
  unfold k0_pay39 k0_pay38
  dsimp only
  generalize hM : concatenate S432x4096 0 _ _ = M
  pointwise
  rw [sum_432]
  congr 1
  refine Finset.sum_congr rfl fun t _ => Finset.sum_congr rfl fun k _ => ?_
  congr 1
  rw [← hM]
  clear hM M
  refine (stack_apply [_, _, _, _, _, _, _, _, _, _, _, _, _, _, _, _, _, _, _, _, _, _, _, _, _, _, _] _ t.val (by exact t.isLt) _ k p rfl).trans ?_
  have hL : ∀ (q : Fin 12544), View.ld x0 (Rect.unit (s := S16x278528) (k0_off1 i) S16x12544.size (k0_off1_inb i)) (ix2 k q)
      = padded V k (3968 + 4096 * (i 0).val + q.val) := by
    intro q
    pointwise
    rw [← (off1_eq i).2]
    refine (congrArg x0 ?_).trans (hx0 k ⟨k0_off1 i 1 + q.val, by rw [(off1_eq i).2]; omega⟩)
    congr 1
    apply Fin.ext
    show k0_off1 i 0 + k.val = k.val
    rw [(off1_eq i).1]; omega
  revert hL
  generalize View.ld x0 _ = L
  intro hL
  obtain ⟨t, ht⟩ := t
  interval_cases t <;> dsimp only [List.getElem_cons_succ, List.getElem_cons_zero]
  all_goals
    pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37]
    simp only [hL, row_word _ hp, col_word _ hp, sge_one _ hh, sge_one _ hw, sle_62 _ hh, sle_62 _ hw, select_and, select_one]
  all_goals first
    | exact ite_padded V k _ _ _ _ _ hi ht hp (by unfold inPlane; omega) (by omega)
    | exact padded_eq V k _ _ _ _ hi ht hp (by unfold inPlane; omega) (by omega)

theorem sum_apply (c : Dev nD) (i : grid0.Coords) (arg1 : Memref sig .tc .vmem S16x278528 .f32) (harg1 : arg1.IsWhole) (arg2 : Memref sig .tc .vmem S16x432 .f32) (harg2 : arg2.IsWhole) (arg3 : Memref sig .tc .vmem S16x1 .f32) (harg3 : arg3.IsWhole) (arg4 : Memref sig .tc .vmem S1x16x4096 .f32) (harg4 : arg4.IsWhole) (arg5 : Memref sig .tc .vmem S1x16x2 .f32) (harg5 : arg5.IsWhole)
    (x0 : Vec Ideal S16x278528 .f32) (x1 : Vec Ideal S16x432 .f32) (x2 : Vec Ideal S16x1 .f32) (o : Fin 16) :
    out0_A_4 c i arg1 harg1 arg2 harg2 arg3 harg3 arg4 harg4 arg5 harg5 x0 x1 x2 (ix3 0 o 0) = ∑ p : Fin 4096, out0_A_3 c i arg1 harg1 arg2 harg2 arg3 harg3 arg4 harg4 arg5 harg5 x0 x1 x2 (ix3 0 o p) := by
  frame_out
  have hn : (ix3 0 o 0 : S1x16x2.Idx) ∉ (Rect.unit (s := S1x16x2) ![0, 0, 1] ![1, 16, 1] inb_S1x16x2_S1x16x1_0_0_1).set :=
    fun h => absurd (Rect.mem_set_unit.mp h 2).1 (by show ¬(1 ≤ 0); omega)
  refine (View.canon_cons_of_not_mem _ _ hn).trans ?_
  refine Eq.trans (congrArg _ (show (ix3 0 o 0 : S1x16x2.Idx) = (Rect.unit (s := S1x16x2) ![0, 0, 0] ![1, 16, 1] inb_S1x16x2_S1x16x1_0_0_0).emb (ix3 0 o 0) from by blk_ext)) ?_
  refine (View.canon_cons_emb (Rect.unit (s := S1x16x2) ![0, 0, 0] ![1, 16, 1] inb_S1x16x2_S1x16x1_0_0_0) _ _ (ix3 0 o 0)).trans ?_
  pointwise [k0_pay40, k0_pay39]

theorem square_apply (c : Dev nD) (i : grid0.Coords) (arg1 : Memref sig .tc .vmem S16x278528 .f32) (harg1 : arg1.IsWhole) (arg2 : Memref sig .tc .vmem S16x432 .f32) (harg2 : arg2.IsWhole) (arg3 : Memref sig .tc .vmem S16x1 .f32) (harg3 : arg3.IsWhole) (arg4 : Memref sig .tc .vmem S1x16x4096 .f32) (harg4 : arg4.IsWhole) (arg5 : Memref sig .tc .vmem S1x16x2 .f32) (harg5 : arg5.IsWhole)
    (x0 : Vec Ideal S16x278528 .f32) (x1 : Vec Ideal S16x432 .f32) (x2 : Vec Ideal S16x1 .f32) (o : Fin 16) :
    out0_A_4 c i arg1 harg1 arg2 harg2 arg3 harg3 arg4 harg4 arg5 harg5 x0 x1 x2 (ix3 0 o 1) = ∑ p : Fin 4096, out0_A_3 c i arg1 harg1 arg2 harg2 arg3 harg3 arg4 harg4 arg5 harg5 x0 x1 x2 (ix3 0 o p) * out0_A_3 c i arg1 harg1 arg2 harg2 arg3 harg3 arg4 harg4 arg5 harg5 x0 x1 x2 (ix3 0 o p) := by
  frame_out
  refine Eq.trans (congrArg _ (show (ix3 0 o 1 : S1x16x2.Idx) = (Rect.unit (s := S1x16x2) ![0, 0, 1] ![1, 16, 1] inb_S1x16x2_S1x16x1_0_0_1).emb (ix3 0 o 0) from by blk_ext)) ?_
  refine (View.canon_cons_emb (Rect.unit (s := S1x16x2) ![0, 0, 1] ![1, 16, 1] inb_S1x16x2_S1x16x1_0_0_1) _ _ (ix3 0 o 0)).trans ?_
  pointwise [k0_pay1, k0_pay41, k0_pay39]

end Cert.ProjBlk

end
-- ==== Proof.ProjKernel.lean ====
/-  The projection's two arrays and the three results made from them, read from the launch's arguments. -/
module

public import proofs.«01_k».proof.Proof.ProjBlk

@[expose] public section

set_option maxRecDepth 16384

noncomputable section

open Idealize.ShloMosaic Idealize.ShloMosaic.TcCoe Idealize.SL.Sem

namespace Cert.Proj

open Cert.ProjectIdeal Cert.ProjectIdeal.Gen Cert.Taps

variable (m : (ℓ : Loc nD τ sig) → Buf (Elt Ideal) ℓ) (c : Dev nD)

/-- The arguments of the launch, by name. -/
abbrev aX : Vec Ideal S1x16x64x64x64 .f32 := m ((c : Thread nD τ).loc main_arg0)
abbrev aW : Vec Ideal S16x16x3x3x3 .f32 := m ((c : Thread nD τ).loc main_arg1)
abbrev aB : Vec Ideal S16 .f32 := m ((c : Thread nD τ).loc main_arg2)

/-- The volume's flat rows, and the weights with their three tap axes as one. -/
abbrev rowsX (x : Vec Ideal S1x16x64x64x64 .f32) : Vec Ideal S16x262144 .f32 := shapeCast S16x262144 x shapeCasts_S1x16x64x64x64_S16x262144
abbrev taps27 (w : Vec Ideal S16x16x3x3x3 .f32) : Vec Ideal S16x16x27 .f32 := shapeCast S16x16x27 w shapeCasts_S16x16x3x3x3_S16x16x27

/-- A flat row by number, zero past its end. -/
def flat (x : Vec Ideal S16x262144 .f32) (k : Fin 16) (q : ℕ) : EReal := if h : q < 262144 then x (ix2 k ⟨q, h⟩) else 0

/-- The padding value: the integer zero, converted. -/
theorem sitofp_zero : sitofp (F := Idealize.ShloMosaic.Ideal) .f32 (constantI S_ 32 0#32) (Shape.Idx.first h_S_) = 0 := by
  show (((0#32 : BitVec 32).toInt : ℝ) : EReal) = 0
  simp

theorem V_v1 (k : Fin 16) (q : Fin 278528) : (V m c main_v1 : Vec Ideal S16x278528 .f32) (ix2 k q) = padded (flat (rowsX (aX m c))) k q.val := by
  have h : (V m c main_v1 : Vec Ideal S16x278528 .f32) = pad S16x278528 ![0, 8192] ![0, 8192] ![0, 0]
      (rowsX (aX m c)) (sitofp (F := Ideal) .f32 (constantI S_ 32 0#32)) pads_S16x262144_S16x278528_000_819281920 h_S_ := by
    dsimp only [V, V0]
    simp only [hostOps0, hostOps0_1, hostOps0_2, List.flatten_cons, List.flatten_nil, List.append_nil, List.cons_append, List.nil_append]
    after_results
    rfl
  rw [h]
  refine pad_flat _ _ _ _ sitofp_zero _ (fun k q => ?_) k q
  rw [flat, dif_pos q.isLt]

theorem V_v4 (o : Fin 16) (t : ℕ) (ht : t < 27) (k : Fin 16) :
    (V m c main_v4 : Vec Ideal S16x432 .f32) (ix2 o ⟨16 * t + k.val, by omega⟩) = taps27 (aW m c) (ix3 o k ⟨t, ht⟩) := by
  have h : (V m c main_v4 : Vec Ideal S16x432 .f32) = shapeCast S16x432 (transpose S16x27x16 [0, 2, 1] (taps27 (aW m c)) transposes_S16x16x27_S16x27x16_0_2_1) shapeCasts_S16x27x16_S16x432 := by
    dsimp only [V, V0]
    simp only [hostOps0, hostOps0_1, hostOps0_2, List.flatten_cons, List.flatten_nil, List.append_nil, List.cons_append, List.nil_append]
    after_results
    rfl
  rw [h]
  generalize taps27 (aW m c) = w
  pointwise
  exact congrArg w (congrArg (ix3 o k) (Fin.ext (by show (16 * t + k.val) / 16 = t; omega)))

theorem V_v5 (o : Fin 16) : (V m c main_v5 : Vec Ideal S16x1 .f32) (ix2 o 0) = aB m c (ix1 o) := by
  have h : (V m c main_v5 : Vec Ideal S16x1 .f32) = shapeCast S16x1 (aB m c) shapeCasts_S16_S16x1 := by
    dsimp only [V, V0]
    simp only [hostOps0, hostOps0_1, hostOps0_2, List.flatten_cons, List.flatten_nil, List.append_nil, List.cons_append, List.nil_append]
    after_results
    rfl
  rw [h]
  pointwise

/-- The projection at plane `i`, output channel `o`, lane `p`. -/
def yAt (x : Vec Ideal S16x262144 .f32) (w : Vec Ideal S16x16x27 .f32) (b : Vec Ideal S16 .f32) (i : Fin 64) (o : Fin 16) (p : Fin 4096) : EReal :=
  (∑ t : Fin 27, ∑ k : Fin 16, w (ix3 o k t) * tap (flat x) i.val t.val k p.val) + b (ix1 o)

/-- The first array: plane, output channel, lane. -/
def Y : Vec Ideal S64x16x4096 .f32 := fun y => yAt (rowsX (aX m c)) (taps27 (aW m c)) (aB m c) (y 0) (y 1) (y 2)

/-- The second array: each plane's sum and sum of squares. -/
def ST : Vec Ideal S64x16x2 .f32 := fun y =>
  if (y 2).val = 0 then ∑ p : Fin 4096, Y m c (ix3 (y 0) (y 1) p) else ∑ p : Fin 4096, Y m c (ix3 (y 0) (y 1) p) * Y m c (ix3 (y 0) (y 1) p)

/-- The plane a grid point works on. -/
def plane (t : Fin cfg0.N) : Fin 64 := ⟨(grid0.coords t 0).val, (grid0.coords t 0).isLt⟩

/-- Where every window's block lies. -/
theorem idx : ∀ t : Fin cfg0.N, win0_0.index t = ![0, 0] ∧ win0_1.index t = ![0, 0] ∧ win0_2.index t = ![0, 0]
    ∧ win0_3.index t = ![(grid0.coords t 0).val, 0, 0] ∧ win0_4.index t = ![(grid0.coords t 0).val, 0, 0] :=
  (by decide +kernel : ∀ t : Fin grid0.N, _)

theorem blk0 (t : Fin cfg0.N) (k : Fin 16) (q : Fin 278528) : (iblk m c 0 t : Vec Ideal S16x278528 .f32) (ix2 k q) = (V m c main_v1 : Vec Ideal S16x278528 .f32) (ix2 k q) := by
  blk_ext [iblk, idx t, plane]
theorem blk1 (t : Fin cfg0.N) (o : Fin 16) (q : Fin 432) : (iblk m c 1 t : Vec Ideal S16x432 .f32) (ix2 o q) = (V m c main_v4 : Vec Ideal S16x432 .f32) (ix2 o q) := by
  blk_ext [iblk, idx t, plane]
theorem blk2 (t : Fin cfg0.N) (o : Fin 16) : (iblk m c 2 t : Vec Ideal S16x1 .f32) (ix2 o 0) = aB m c (ix1 o) := by
  refine Eq.trans ?_ (V_v5 m c o)
  blk_ext [iblk, idx t, plane]

/-- What a grid point stores of the projection. -/
theorem stored3 (t : Fin cfg0.N) (o : Fin 16) (p : Fin 4096) :
    ((outsAt0 m c t).1 : Vec Ideal S1x16x4096 .f32) (ix3 0 o p) = Y m c (ix3 (plane t) o p) := by
  unfold outsAt0
  dsimp only
  rw [ProjBlk.plane_apply (V := flat (rowsX (aX m c))) (hx0 := fun k q => (blk0 m c t k q).trans (V_v1 m c k q))]
  simp only [blk1, blk2, V_v4 m c _ _ (Fin.isLt _)]
  rfl

/-- What a grid point stores of the sums. -/
theorem stored4 (t : Fin cfg0.N) (o : Fin 16) (j : Fin 2) :
    ((outsAt0 m c t).2 : Vec Ideal S1x16x2 .f32) (ix3 0 o j) = ST m c (ix3 (plane t) o j) := by
  have h := fun p => stored3 m c t o p
  unfold outsAt0 at h ⊢
  dsimp only at h ⊢
  fin_cases j
  · refine (ProjBlk.sum_apply _ _ _ _ _ _ _ _ _ _ _ _ _ _ _ o).trans ?_
    simp only [h]
    rfl
  · refine (ProjBlk.square_apply _ _ _ _ _ _ _ _ _ _ _ _ _ _ _ o).trans ?_
    simp only [h]
    rfl

/-- After the last grid point the first array is `Y`. -/
theorem arr3 : (dats (F := Idealize.ShloMosaic.Ideal) m 0 c).arrAt 3 cfg0.N = Y m c := by
  refine (dats m 0 c).arrAt_eq_of_covers 3 _ (by decide +kernel) fun t hf y => ?_
  blk_simp
  rw [after0_3]
  have hy : y = (ix3 0 (y 1) (y 2) : S1x16x4096.Idx) := by blk_ext
  have he : (win0_3.blk t).view.emb y = (ix3 (plane t) (y 1) (y 2) : S64x16x4096.Idx) := by blk_ext [idx t, plane]
  rw [he]
  exact (congrArg (outsAt0 m c t).1 hy).trans (stored3 m c t (y 1) (y 2))

/-- After the last grid point the second array is `ST`. -/
theorem arr4 : (dats (F := Idealize.ShloMosaic.Ideal) m 0 c).arrAt 4 cfg0.N = ST m c := by
  refine (dats m 0 c).arrAt_eq_of_covers 4 _ (by decide +kernel) fun t hf y => ?_
  blk_simp
  rw [after0_4]
  have hy : y = (ix3 0 (y 1) (y 2) : S1x16x2.Idx) := by blk_ext
  have he : (win0_4.blk t).view.emb y = (ix3 (plane t) (y 1) (y 2) : S64x16x2.Idx) := by blk_ext [idx t, plane]
  rw [he]
  exact (congrArg (outsAt0 m c t).2 hy).trans (stored4 m c t (y 1) (y 2))

/-! ## The host lines after the call -/

/-- The projection as flat rows. -/
def OUTy (y : Vec Ideal S64x16x4096 .f32) : Vec Ideal S16x262144 .f32 :=
  shapeCast S16x262144 (transpose S16x64x4096 [1, 0, 2] y transposes_S64x16x4096_S16x64x4096_1_0_2) shapeCasts_S16x64x4096_S16x262144

/-- The mean over the voxels of what column `v` of the sums adds up. -/
def meanCol (st : Vec Ideal S64x16x2 .f32) (v : Fin 3 → ℕ) (h : S64x16x2.Slices v S64x16x1) : Vec Ideal S16 .f32 :=
  Host.divf (F := Ideal) (φ := .f32)
    (Host.reduceAdd (F := Ideal) (φ := .f32) (shapeCast S64x16 (extractStridedSlice S64x16x1 v st h) shapeCasts_S64x16x1_S64x16)
      (constant S_ .f32 0x00000000#32) reducesTo_S64x16_S16_d0 h_S_)
    (broadcastInDim S16 ![] bcast_S_S16 (constant S_ .f32 0x48800000#32))

/-- The mean. -/
def OUTmu (st : Vec Ideal S64x16x2 .f32) : Vec Ideal S16 .f32 := meanCol st ![0, 0, 0] slices_S64x16x2_S64x16x1_0_0_0

/-- The reciprocal root of the variance and a small constant. -/
def OUTinv (st : Vec Ideal S64x16x2 .f32) : Vec Ideal S16 .f32 :=
  Host.rsqrt (F := Ideal) (φ := .f32) (addf (F := Ideal) (φ := .f32)
    (subf (F := Ideal) (φ := .f32) (meanCol st ![0, 0, 1] slices_S64x16x2_S64x16x1_0_0_1) (mulf (F := Ideal) (φ := .f32) (OUTmu st) (OUTmu st)))
    (broadcastInDim S16 ![] bcast_S_S16 (constant S_ .f32 0x3727C5AC#32)))

/-- What the host lines leave in the result buffers. -/
theorem tail : Pipeline.afterTail₀ cfgs (dats (F := Idealize.ShloMosaic.Ideal) m) 0 (V0 m) [hostOps1] c main_v23 = OUTy (Y m c)
    ∧ Pipeline.afterTail₀ cfgs (dats (F := Idealize.ShloMosaic.Ideal) m) 0 (V0 m) [hostOps1] c main_v14 = OUTmu (ST m c)
    ∧ Pipeline.afterTail₀ cfgs (dats (F := Idealize.ShloMosaic.Ideal) m) 0 (V0 m) [hostOps1] c main_v21 = OUTinv (ST m c) := by
  unfold Pipeline.afterTail₀
  have h3 : Pipeline.withArrays (cfgs 0).spec c (V0 m c) (fun w => (dats (F := Idealize.ShloMosaic.Ideal) m 0 c).arrAt w (cfgs 0).N) (Proc.devRef .tc main_v6_0) = Y m c :=
    (Pipeline.withArrays_arr (cfgs 0).spec launch0.win.arr_inj c (V0 m c) (fun w => (dats m 0 c).arrAt w (cfgs 0).N) 3).trans (arr3 m c)
  have h4 : Pipeline.withArrays (cfgs 0).spec c (V0 m c) (fun w => (dats (F := Idealize.ShloMosaic.Ideal) m 0 c).arrAt w (cfgs 0).N) (Proc.devRef .tc main_v6_1) = ST m c :=
    (Pipeline.withArrays_arr (cfgs 0).spec launch0.win.arr_inj c (V0 m c) (fun w => (dats m 0 c).arrAt w (cfgs 0).N) 4).trans (arr4 m c)
  simp only [hostOps1, List.flatten_cons, List.flatten_nil, List.append_nil]
  refine ⟨?_, ?_, ?_⟩
  · after_results
    rw [h3]
    rfl
  · after_results
    rw [h4]
    rfl
  · after_results
    rw [h4]
    rfl

/-- The run: the results are the three arrays, by name. -/
theorem run (ρ : Dev nD → PrngReg) : θ_run defs (onTc (τ := τ) (main (F := Idealize.ShloMosaic.Ideal))) ⟨m, fun _ => 0, ρ⟩ (fun r => ∀ c : Dev nD,
    r.2.mem ((c.tc : Thread nD τ).loc main_v23) = OUTy (Y m c) ∧ r.2.mem ((c.tc : Thread nD τ).loc main_v14) = OUTmu (ST m c)
      ∧ r.2.mem ((c.tc : Thread nD τ).loc main_v21) = OUTinv (ST m c)) :=
  (θ_run defs _ _).mono (fun _ h c =>
    ⟨((h c).2 main_v23 (Pipeline.mem_restRefs_of main_v23 (by decide) (by decide))).trans (tail m c).1,
     ((h c).2 main_v14 (Pipeline.mem_restRefs_of main_v14 (by decide) (by decide))).trans (tail m c).2.1,
     ((h c).2 main_v21 (Pipeline.mem_restRefs_of main_v21 (by decide) (by decide))).trans (tail m c).2.2⟩) (run_main m ρ)

end Cert.Proj

end
-- ==== Proof.ProjRun.lean ====
/-  The run of the plain projection: its 57 operations in three stretches, each read from the contents before it. -/
module

public import proofs.«01_k».proof.Proof.Gen.ProjectionIdeal
public import Idealize.ShloMosaic.Lib.Claim
public import Idealize.ShloMosaic.Lib.StableHlo.RunHlo
public import Idealize.ShloMosaic.Lib.Quiescent
public import Idealize.ShloMosaic.Lib.Pointwise
public import proofs.«01_k».proof.Proof.Taps

@[expose] public section

set_option maxRecDepth 16384

noncomputable section

open Idealize.ShloMosaic Idealize.ShloMosaic.TcCoe Idealize.SL.Sem Idealize.ShloMosaic.StableHlo

namespace Cert.ProjRun

open Cert.ProjectionIdeal Cert.ProjectionIdeal.Gen

/-! ## What the stretches compute -/

/-- The padded cube. -/
def cube (x : Vec Ideal S1x16x64x64x64 .f32) : Vec Ideal S1x16x66x66x66 .f32 :=
  pad S1x16x66x66x66 ![0, 0, 1, 1, 1] ![0, 0, 1, 1, 1] ![0, 0, 0, 0, 0] x
    (sitofp (F := Ideal) .f32 (constantI S_ 32 0#32)) pads_S1x16x64x64x64_S1x16x66x66x66_000_000_110_110_110 h_S_

/-- One shifted view of it. -/
def view (P : Vec Ideal S1x16x66x66x66 .f32) (v : Fin 5 → ℕ) (h : S1x16x66x66x66.Slices v S1x16x64x64x64) : Vec Ideal S1x16x64x64x64 .f32 :=
  extractStridedSlice S1x16x64x64x64 v P h

/-- The 27 shifted views, one after another: sixteen, then eleven. -/
def views (u : Fin 27 → Vec Ideal S1x16x64x64x64 .f32) : Vec Ideal S27x16x64x64x64 .f32 :=
  concatenate S27x16x64x64x64 0
    [⟨S16x16x64x64x64, concatenate S16x16x64x64x64 0
      [⟨S1x16x64x64x64, u 0⟩, ⟨S1x16x64x64x64, u 1⟩, ⟨S1x16x64x64x64, u 2⟩, ⟨S1x16x64x64x64, u 3⟩, ⟨S1x16x64x64x64, u 4⟩, ⟨S1x16x64x64x64, u 5⟩, ⟨S1x16x64x64x64, u 6⟩, ⟨S1x16x64x64x64, u 7⟩, ⟨S1x16x64x64x64, u 8⟩, ⟨S1x16x64x64x64, u 9⟩, ⟨S1x16x64x64x64, u 10⟩, ⟨S1x16x64x64x64, u 11⟩, ⟨S1x16x64x64x64, u 12⟩, ⟨S1x16x64x64x64, u 13⟩, ⟨S1x16x64x64x64, u 14⟩, ⟨S1x16x64x64x64, u 15⟩]
      concatenates_S1x16x64x64x64_S1x16x64x64x64_S1x16x64x64x64_S1x16x64x64x64_S1x16x64x64x64_S1x16x64x64x64_S1x16x64x64x64_S1x16x64x64x64_S1x16x64x64x64_S1x16x64x64x64_S1x16x64x64x64_S1x16x64x64x64_S1x16x64x64x64_S1x16x64x64x64_S1x16x64x64x64_S1x16x64x64x64_S16x16x64x64x64_d0⟩,
     ⟨S11x16x64x64x64, concatenate S11x16x64x64x64 0
      [⟨S1x16x64x64x64, u 16⟩, ⟨S1x16x64x64x64, u 17⟩, ⟨S1x16x64x64x64, u 18⟩, ⟨S1x16x64x64x64, u 19⟩, ⟨S1x16x64x64x64, u 20⟩, ⟨S1x16x64x64x64, u 21⟩, ⟨S1x16x64x64x64, u 22⟩, ⟨S1x16x64x64x64, u 23⟩, ⟨S1x16x64x64x64, u 24⟩, ⟨S1x16x64x64x64, u 25⟩, ⟨S1x16x64x64x64, u 26⟩]
      concatenates_S1x16x64x64x64_S1x16x64x64x64_S1x16x64x64x64_S1x16x64x64x64_S1x16x64x64x64_S1x16x64x64x64_S1x16x64x64x64_S1x16x64x64x64_S1x16x64x64x64_S1x16x64x64x64_S1x16x64x64x64_S11x16x64x64x64_d0⟩]
    concatenates_S16x16x64x64x64_S11x16x64x64x64_S27x16x64x64x64_d0

/-- All the views of a padded cube. -/
def taps (P : Vec Ideal S1x16x66x66x66 .f32) : Fin 27 → Vec Ideal S1x16x64x64x64 .f32 :=
  ![view P ![0, 0, 0, 0, 0] slices_S1x16x66x66x66_S1x16x64x64x64_0_0_0_0_0,
    view P ![0, 0, 0, 0, 1] slices_S1x16x66x66x66_S1x16x64x64x64_0_0_0_0_1,
    view P ![0, 0, 0, 0, 2] slices_S1x16x66x66x66_S1x16x64x64x64_0_0_0_0_2,
    view P ![0, 0, 0, 1, 0] slices_S1x16x66x66x66_S1x16x64x64x64_0_0_0_1_0,
    view P ![0, 0, 0, 1, 1] slices_S1x16x66x66x66_S1x16x64x64x64_0_0_0_1_1,
    view P ![0, 0, 0, 1, 2] slices_S1x16x66x66x66_S1x16x64x64x64_0_0_0_1_2,
    view P ![0, 0, 0, 2, 0] slices_S1x16x66x66x66_S1x16x64x64x64_0_0_0_2_0,
    view P ![0, 0, 0, 2, 1] slices_S1x16x66x66x66_S1x16x64x64x64_0_0_0_2_1,
    view P ![0, 0, 0, 2, 2] slices_S1x16x66x66x66_S1x16x64x64x64_0_0_0_2_2,
    view P ![0, 0, 1, 0, 0] slices_S1x16x66x66x66_S1x16x64x64x64_0_0_1_0_0,
    view P ![0, 0, 1, 0, 1] slices_S1x16x66x66x66_S1x16x64x64x64_0_0_1_0_1,
    view P ![0, 0, 1, 0, 2] slices_S1x16x66x66x66_S1x16x64x64x64_0_0_1_0_2,
    view P ![0, 0, 1, 1, 0] slices_S1x16x66x66x66_S1x16x64x64x64_0_0_1_1_0,
    view P ![0, 0, 1, 1, 1] slices_S1x16x66x66x66_S1x16x64x64x64_0_0_1_1_1,
    view P ![0, 0, 1, 1, 2] slices_S1x16x66x66x66_S1x16x64x64x64_0_0_1_1_2,
    view P ![0, 0, 1, 2, 0] slices_S1x16x66x66x66_S1x16x64x64x64_0_0_1_2_0,
    view P ![0, 0, 1, 2, 1] slices_S1x16x66x66x66_S1x16x64x64x64_0_0_1_2_1,
    view P ![0, 0, 1, 2, 2] slices_S1x16x66x66x66_S1x16x64x64x64_0_0_1_2_2,
    view P ![0, 0, 2, 0, 0] slices_S1x16x66x66x66_S1x16x64x64x64_0_0_2_0_0,
    view P ![0, 0, 2, 0, 1] slices_S1x16x66x66x66_S1x16x64x64x64_0_0_2_0_1,
    view P ![0, 0, 2, 0, 2] slices_S1x16x66x66x66_S1x16x64x64x64_0_0_2_0_2,
    view P ![0, 0, 2, 1, 0] slices_S1x16x66x66x66_S1x16x64x64x64_0_0_2_1_0,
    view P ![0, 0, 2, 1, 1] slices_S1x16x66x66x66_S1x16x64x64x64_0_0_2_1_1,
    view P ![0, 0, 2, 1, 2] slices_S1x16x66x66x66_S1x16x64x64x64_0_0_2_1_2,
    view P ![0, 0, 2, 2, 0] slices_S1x16x66x66x66_S1x16x64x64x64_0_0_2_2_0,
    view P ![0, 0, 2, 2, 1] slices_S1x16x66x66x66_S1x16x64x64x64_0_0_2_2_1,
    view P ![0, 0, 2, 2, 2] slices_S1x16x66x66x66_S1x16x64x64x64_0_0_2_2_2]

/-- The projection: the contraction over taps and input channels, and the bias. -/
def proj (U : Vec Ideal S27x16x64x64x64 .f32) (w : Vec Ideal S16x16x3x3x3 .f32) (b : Vec Ideal S16 .f32) : Vec Ideal S16x262144 .f32 :=
  addf (F := Ideal) (φ := .f32)
    (Host.dotGeneral (F := Ideal) (φ₁ := .f32) (φ₂ := .f32) dot_S16x16x27_S27x16x262144_S16x262144_12_10_0_2_n_n none
      (shapeCast S16x16x27 w shapeCasts_S16x16x3x3x3_S16x16x27) (shapeCast S27x16x262144 U shapeCasts_S27x16x64x64x64_S27x16x262144))
    (broadcastInDim S16x262144 ![0, 1] bcast_S16x1_S16x262144_0_1 (broadcastInDim S16x1 ![0] bcast_S16_S16x1_0 b))

/-- The mean over the voxels. -/
def mean (y : Vec Ideal S16x262144 .f32) : Vec Ideal S16 .f32 :=
  Host.divf (F := Ideal) (φ := .f32) (Host.reduceAdd (F := Ideal) (φ := .f32) y (constant S_ .f32 0x00000000#32) reducesTo_S16x262144_S16_d1 h_S_)
    (broadcastInDim S16 ![] bcast_S_S16 (constant S_ .f32 0x48800000#32))

/-- The differences from a per-channel value, squared. -/
def sqDiff (y : Vec Ideal S16x262144 .f32) (μ : Vec Ideal S16 .f32) : Vec Ideal S16x262144 .f32 :=
  let e : Vec Ideal S16x262144 .f32 := subf (F := Ideal) (φ := .f32) y
    (broadcastInDim S16x262144 ![0, 1] bcast_S16x1_S16x262144_0_1 (broadcastInDim S16x1 ![0] bcast_S16_S16x1_0 μ))
  mulf (F := Ideal) (φ := .f32) e e

/-- The reciprocal root of the variance and a small constant. -/
def rootInv (v : Vec Ideal S16 .f32) : Vec Ideal S16 .f32 :=
  Host.rsqrt (F := Ideal) (φ := .f32) (addf (F := Ideal) (φ := .f32) v (broadcastInDim S16 ![] bcast_S_S16 (constant S_ .f32 0x3727C5AC#32)))

/-! ## The stretches -/

variable {Λ : Labels}

/-- A line of operations whose first stretch is `A`. -/
theorem open_stretch {p : Prog (TpuEff nD τ sig (Elt Idealize.ShloMosaic.Ideal) Λ .tc) PUnit} {B : List (HloOp τ sig (Elt Idealize.ShloMosaic.Ideal))}
    (h : IsSeq p B) : IsSeq p ([] ++ B) := h

theorem next_op {op : HloOp τ sig (Elt Idealize.ShloMosaic.Ideal)} {k : Prog (TpuEff nD τ sig (Elt Idealize.ShloMosaic.Ideal) Λ .tc) PUnit} {A B : List (HloOp τ sig (Elt Idealize.ShloMosaic.Ideal))}
    (h : IsSeq k (A ++ B)) : IsSeq ((hlo rfl op fun _ => .ret (⟨⟩ : PUnit)) >>= fun _ => k) ((op :: A) ++ B) := IsSeq.cons h

/-- The program is three stretches: the stack of views, the projection, the statistics. -/
theorem main_stretches : ∃ A B C : List (HloOp τ sig (Elt Idealize.ShloMosaic.Ideal)),
    (∀ d : Dev nD, IsSeq (main (F := Idealize.ShloMosaic.Ideal) d) (A ++ (B ++ (C ++ [])))) ∧
    (A ++ (B ++ (C ++ []))).Forall (fun op : HloOp τ sig (Elt Idealize.ShloMosaic.Ideal) => op.bufs ⊆ tcRefs τ sig) ∧
    (∀ op ∈ A ++ (B ++ (C ++ [])), op.fresh = ∅) ∧
    (∀ W : Valuation τ sig (Elt Idealize.ShloMosaic.Ideal), after A W main_v30 = views (taps (cube (W main_arg0)))
      ∧ after A W main_arg0 = W main_arg0 ∧ after A W main_arg1 = W main_arg1 ∧ after A W main_arg2 = W main_arg2) ∧
    (∀ W : Valuation τ sig (Elt Idealize.ShloMosaic.Ideal), after B W main_v36 = proj (W main_v30) (W main_arg1) (W main_arg2)
      ∧ after B W main_arg0 = W main_arg0 ∧ after B W main_arg1 = W main_arg1 ∧ after B W main_arg2 = W main_arg2) ∧
    (∀ W : Valuation τ sig (Elt Idealize.ShloMosaic.Ideal), after C W main_v36 = W main_v36 ∧ after C W main_v39 = mean (W main_v36)
      ∧ after C W main_v49 = rootInv (mean (sqDiff (W main_v36) (mean (W main_v36))))
      ∧ after C W main_arg0 = W main_arg0 ∧ after C W main_arg1 = W main_arg1 ∧ after C W main_arg2 = W main_arg2) := by
  iterate 3 apply Exists.intro
  refine ⟨?_, ?_, ?_, ?_, ?_, ?_⟩
  · intro d
    iterate 33 apply next_op
    apply open_stretch
    iterate 6 apply next_op
    apply open_stretch
    iterate 18 apply next_op
    exact open_stretch IsSeq.nil
  · simp
  · intro _ h
    simp only [List.cons_append, List.nil_append] at h
    (repeat (cases h with | head => rfl | tail _ h => ?_)); exact nomatch h
  · intro W
    refine ⟨?_, ?_, ?_, ?_⟩
    · after_results
      rfl
    all_goals after_results
  · intro W
    refine ⟨?_, ?_, ?_, ?_⟩
    · after_results
      rfl
    all_goals after_results
  · intro W
    refine ⟨?_, ?_, ?_, ?_, ?_, ?_⟩
    · after_results
    · after_results
      rfl
    · after_results
      rfl
    all_goals after_results

end Cert.ProjRun

end
-- ==== Proof.ProjRef.lean ====
/-  The plain projection read at an output channel and a voxel. -/
module

public import proofs.«01_k».proof.Proof.ProjRun
public import proofs.«01_k».proof.Proof.ProjKernel

@[expose] public section

set_option maxRecDepth 16384

noncomputable section

open Idealize.ShloMosaic Idealize.ShloMosaic.TcCoe Idealize.SL.Sem

namespace Cert.ProjRef

open Cert.ProjectionIdeal Cert.ProjectionIdeal.Gen Cert.ProjRun Cert.Taps Cert.Proj

theorem views_apply (u : Fin 27 → Vec Ideal S1x16x64x64x64 .f32) (t : Fin 27) (k : Fin 16) (d h w : Fin 64) :
    views u (ix5 t k d h w) = u t (ix5 0 k d h w) := by
  obtain ⟨t, ht⟩ := t
  interval_cases t
  all_goals
    pointwise [views]

theorem taps_apply (P : Vec Ideal S1x16x66x66x66 .f32) (t : Fin 27) (k : Fin 16) (d h w : Fin 64) :
    taps P t (ix5 0 k d h w) = P (ix5 0 k ⟨t.val / 9 + d.val, by omega⟩ ⟨t.val / 3 % 3 + h.val, by omega⟩ ⟨t.val % 3 + w.val, by omega⟩) := by
  obtain ⟨t, ht⟩ := t
  interval_cases t
  all_goals
    unfold taps
    pointwise [view]

theorem cube_apply (x : Vec Ideal S1x16x64x64x64 .f32) (k : Fin 16) (d h w : Fin 66) :
    cube x (ix5 0 k d h w) = at3 (flat (rowsX x)) k d.val h.val w.val := by
  refine pad_cube _ _ _ _ ?_ (flat (rowsX x)) (fun k d h w => ?_) k d h w
  · show (((0#32 : BitVec 32).toInt : ℝ) : EReal) = 0
    simp
  · rw [flat, dif_pos (by omega)]
    simp only [rowsX]
    pointwise

/-- The plain projection at a voxel is the kernel's. -/
theorem proj_apply (x : Vec Ideal S1x16x64x64x64 .f32) (w : Vec Ideal S16x16x3x3x3 .f32) (b : Vec Ideal S16 .f32) (o : Fin 16) (v : Fin 262144) :
    proj (views (taps (cube x))) w b (ix2 o v)
      = yAt (rowsX x) (taps27 w) b ⟨v.val / 4096, by omega⟩ o ⟨v.val % 4096, by omega⟩ := by
  unfold proj yAt
  have hw : ∀ k t, shapeCast S16x16x27 w shapeCasts_S16x16x3x3x3_S16x16x27 (ix3 o k t) = taps27 w (ix3 o k t) := fun _ _ => rfl
  generalize taps27 w = w'' at hw ⊢
  revert hw
  generalize shapeCast S16x16x27 w shapeCasts_S16x16x3x3x3_S16x16x27 = w'
  intro hw
  have hU : ∀ t k (d h q : Fin 64), views (taps (cube x)) (ix5 t k d h q) = tap (flat (rowsX x)) d.val t.val k (h.val * 64 + q.val) := by
    intro t k d h q
    rw [views_apply, taps_apply, cube_apply]
    unfold tap
    have e1 : (h.val * 64 + q.val) / 64 = h.val := by omega
    have e2 : (h.val * 64 + q.val) % 64 = q.val := by omega
    rw [e1, e2, Nat.add_comm d.val, Nat.add_comm h.val, Nat.add_comm q.val]
  revert hU
  generalize views (taps (cube x)) = U
  intro hU
  pointwise
  simp only [hU, hw]
  rw [Finset.sum_comm]
  have e : v.val / 64 % 64 * 64 + v.val % 64 = v.val % 4096 := by omega
  simp only [e]

/-- A sum over the voxels, plane by plane. -/
theorem sum_voxels (f : Fin 262144 → EReal) :
    ∑ v, f v = ∑ i : Fin 64, ∑ p : Fin 4096, f ⟨4096 * i.val + p.val, by omega⟩ := by
  rw [← Fintype.sum_prod_type']
  refine (Fintype.sum_equiv (finProdFinEquiv (m := 64) (n := 4096)) _ _ fun x => ?_).symm
  congr 1
  apply Fin.ext
  simp [finProdFinEquiv]
  omega

theorem mean_apply (y : Vec Ideal S16x262144 .f32) (o : Fin 16) :
    mean y (ix1 o) = Ideal.div (∑ v : Fin 262144, y (ix2 o v)) (Ideal.ofBits .f32 0x48800000#32) := by
  pointwise [mean]

theorem sqDiff_apply (y : Vec Ideal S16x262144 .f32) (μ : Vec Ideal S16 .f32) (o : Fin 16) (v : Fin 262144) :
    sqDiff y μ (ix2 o v) = (y (ix2 o v) - μ (ix1 o)) * (y (ix2 o v) - μ (ix1 o)) := by
  pointwise [sqDiff]

theorem rootInv_apply (s : Vec Ideal S16 .f32) (o : Fin 16) :
    rootInv s (ix1 o) = Ideal.rsqrt (s (ix1 o) + Ideal.ofBits .f32 0x3727C5AC#32) := by
  pointwise [rootInv]

abbrev aX (m : (ℓ : Loc nD τ sig) → Buf (Elt Ideal) ℓ) (c : Dev nD) : Vec Ideal S1x16x64x64x64 .f32 := m ((c.tc : Thread nD τ).loc main_arg0)
abbrev aW (m : (ℓ : Loc nD τ sig) → Buf (Elt Ideal) ℓ) (c : Dev nD) : Vec Ideal S16x16x3x3x3 .f32 := m ((c.tc : Thread nD τ).loc main_arg1)
abbrev aB (m : (ℓ : Loc nD τ sig) → Buf (Elt Ideal) ℓ) (c : Dev nD) : Vec Ideal S16 .f32 := m ((c.tc : Thread nD τ).loc main_arg2)

/-- The plain projection of the arguments. -/
def y (m : (ℓ : Loc nD τ sig) → Buf (Elt Ideal) ℓ) (c : Dev nD) : Vec Ideal S16x262144 .f32 := proj (views (taps (cube (aX m c)))) (aW m c) (aB m c)

/-- What the plain program leaves. -/
theorem run (m : (ℓ : Loc nD τ sig) → Buf (Elt Ideal) ℓ) (g : Dev nD → PrngReg) :
    θ_run (defs (F := Idealize.ShloMosaic.Ideal)) (onTc (τ := τ) (main (F := Idealize.ShloMosaic.Ideal))) ⟨m, fun _ => 0, g⟩ (fun r => ∀ c : Dev nD,
      r.2.mem ((c.tc : Thread nD τ).loc main_v36) = y m c
      ∧ r.2.mem ((c.tc : Thread nD τ).loc main_v39) = mean (y m c)
      ∧ r.2.mem ((c.tc : Thread nD τ).loc main_v49) = rootInv (mean (sqDiff (y m c) (mean (y m c))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  obtain ⟨A, B, C, hmain, hS, hfresh, hA, hB, hC⟩ := main_stretches
  refine (θ_run _ _ _).mono (fun r h c => ?_) (StableHlo.run_hlo defs main hmain (by decide) (by decide) hS hfresh m g)
  obtain ⟨a30, a0, a1, a2⟩ := hA (StableHlo.launchContents m c)
  obtain ⟨b36, b0, b1, b2⟩ := hB (StableHlo.after A (StableHlo.launchContents m c))
  obtain ⟨c36, c39, c49, c0, c1, c2⟩ := hC (StableHlo.after B (StableHlo.after A (StableHlo.launchContents m c)))
  have e : ∀ b, r.2.mem ((c.tc : Thread nD τ).loc b)
      = StableHlo.after C (StableHlo.after B (StableHlo.after A (StableHlo.launchContents m c))) (Proc.devRef .tc b) := by
    intro b
    rw [h c b, StableHlo.after_append, StableHlo.after_append, List.append_nil]
  have hy : StableHlo.after B (StableHlo.after A (StableHlo.launchContents m c)) main_v36 = y m c := by
    rw [b36, a30, a1, a2]
    rfl
  refine ⟨(e _).trans (c36.trans hy), (e _).trans (c39.trans (by rw [hy])), (e _).trans (c49.trans (by rw [hy])),
    (e _).trans (c0.trans (b0.trans a0)), (e _).trans (c1.trans (b1.trans a1)), (e _).trans (c2.trans (b2.trans a2))⟩

end Cert.ProjRef

end
-- ==== Proof.ProjEq.lean ====
/-  The kernel's projection and the plain one, from the same finite arguments, are the same arrays: the projection, its
    mean over the voxels, and the reciprocal root of its variance. -/
module

public import proofs.«01_k».proof.Proof.ProjKernel
public import proofs.«01_k».proof.Proof.ProjRef
public import proofs.«01_k».proof.Proof.Gen.Pre_finite
public import Idealize.ShloMosaic.Lib.ReduceAll

@[expose] public section

set_option maxRecDepth 16384

noncomputable section

open Idealize.ShloMosaic Idealize.ShloMosaic.TcCoe Idealize.SL.Sem

namespace Cert.ProjEq

open Cert.Taps

/-- A real number, as opposed to an infinity. -/
def IsNum (a : EReal) : Prop := ∃ r : ℝ, a = (r : EReal)

theorem IsNum.add {a b : EReal} : IsNum a → IsNum b → IsNum (a + b) := by
  rintro ⟨r, rfl⟩ ⟨s, rfl⟩
  exact ⟨r + s, (EReal.coe_add r s).symm⟩

theorem IsNum.mul {a b : EReal} : IsNum a → IsNum b → IsNum (a * b) := by
  rintro ⟨r, rfl⟩ ⟨s, rfl⟩
  exact ⟨r * s, (EReal.coe_mul r s).symm⟩

theorem coe_sum {ι : Type} (s : Finset ι) (r : ι → ℝ) : ∑ i ∈ s, (r i : EReal) = ((∑ i ∈ s, r i : ℝ) : EReal) := by
  classical
  induction s using Finset.induction_on with
  | empty => simp
  | insert a s ha ih => rw [Finset.sum_insert ha, Finset.sum_insert ha, ih, EReal.coe_add]

theorem IsNum.sum {ι : Type} (s : Finset ι) {f : ι → EReal} (h : ∀ i, IsNum (f i)) : IsNum (∑ i ∈ s, f i) := by
  choose r hr using h
  exact ⟨∑ i ∈ s, r i, by simp only [hr, coe_sum]⟩

/-- A number whose absolute value is below infinity is real. -/
theorem isNum_of_abs {a : EReal} (h : Ideal.cmp .olt (max a (-a)) (Ideal.ofBits .f32 0x7F800000#32) = 1#1) : IsNum a := by
  have htop : Ideal.ofBits .f32 0x7F800000#32 = ⊤ := by simp [Ideal.ofBits, Ideal.ieee]
  rw [htop] at h
  induction a with
  | bot => simp [Ideal.cmp] at h
  | top => simp [Ideal.cmp] at h
  | coe r => exact ⟨r, rfl⟩

/-- The number of voxels. -/
theorem count : Ideal.ofBits .f32 0x48800000#32 = ((262144 : ℝ) : EReal) := by
  simp [Ideal.ofBits, Ideal.ieee, -EReal.coe_mul]; norm_num

/-- The mean of the squared distances from the mean is the mean square less the squared mean. -/
theorem variance (f : Fin 262144 → EReal) (hf : ∀ v, IsNum (f v)) (μ : EReal)
    (hμ : μ = Ideal.div (∑ v, f v) (Ideal.ofBits .f32 0x48800000#32)) :
    Ideal.div (∑ v, (f v - μ) * (f v - μ)) (Ideal.ofBits .f32 0x48800000#32)
      = Ideal.div (∑ v, f v * f v) (Ideal.ofBits .f32 0x48800000#32) - μ * μ := by
  choose r hr using hf
  rw [count] at hμ ⊢
  simp only [hr, coe_sum, Ideal.div_coe (show (262144 : ℝ) ≠ 0 by norm_num), ← EReal.coe_mul] at hμ
  subst hμ
  simp only [hr, Ideal.div_coe (show (262144 : ℝ) ≠ 0 by norm_num), ← EReal.coe_mul, ← EReal.coe_sub, coe_sum]
  congr 1
  have e : ∀ c : ℝ, ∑ v, (r v - c) * (r v - c) = ∑ v, r v * r v - 2 * c * ∑ v, r v + 262144 * (c * c) := by
    intro c
    have e1 : ∀ v, (r v - c) * (r v - c) = r v * r v - 2 * c * r v + c * c := fun v => by ring
    simp only [e1, Finset.sum_add_distrib, Finset.sum_sub_distrib, ← Finset.mul_sum, Finset.sum_const, Finset.card_univ, Fintype.card_fin, nsmul_eq_mul]
    norm_num
    ring
  rw [e]
  ring

variable (m : (ℓ : Loc Cert.ProjectIdeal.nD Cert.ProjectIdeal.τ Cert.ProjectIdeal.sig) → Buf (Elt Ideal) ℓ)
variable (m' : (ℓ : Loc Cert.ProjectionIdeal.nD Cert.ProjectionIdeal.τ Cert.ProjectionIdeal.sig) → Buf (Elt Ideal) ℓ)
variable (c : Dev Cert.ProjectIdeal.nD)

theorem OUTy_apply (Y : Vec Ideal Cert.ProjectIdeal.S64x16x4096 .f32) (o : Fin 16) (v : Fin 262144) :
    Proj.OUTy Y (ix2 o v) = Y (ix3 ⟨v.val / 4096, by omega⟩ o ⟨v.val % 4096, by omega⟩) := by
  pointwise [Proj.OUTy]

theorem OUTmu_apply (s : Vec Ideal Cert.ProjectIdeal.S64x16x2 .f32) (o : Fin 16) :
    Proj.OUTmu s (ix1 o) = Ideal.div (∑ i : Fin 64, s (ix3 i o 0)) (Ideal.ofBits .f32 0x48800000#32) := by
  pointwise [Proj.OUTmu, Proj.meanCol]

theorem OUTinv_apply (s : Vec Ideal Cert.ProjectIdeal.S64x16x2 .f32) (o : Fin 16) :
    Proj.OUTinv s (ix1 o) = Ideal.rsqrt (Ideal.div (∑ i : Fin 64, s (ix3 i o 1)) (Ideal.ofBits .f32 0x48800000#32)
      - Proj.OUTmu s (ix1 o) * Proj.OUTmu s (ix1 o) + Ideal.ofBits .f32 0x3727C5AC#32) := by
  rw [OUTmu_apply]
  pointwise [Proj.OUTinv, Proj.OUTmu, Proj.meanCol]

/-- What the precondition says of the three arguments. -/
structure Finite : Prop where
  x : ∀ i, IsNum (Proj.aX m c i)
  w : ∀ i, IsNum (Proj.aW m c i)
  b : ∀ i, IsNum (Proj.aB m c i)

/-- The projection of finite arguments is finite. -/
theorem y_isNum (hf : Finite m c) (i : Fin 64) (o : Fin 16) (p : Fin 4096) : IsNum (Proj.Y m c (ix3 i o p)) := by
  have zero : IsNum 0 := ⟨0, EReal.coe_zero.symm⟩
  have hflat : ∀ k q, IsNum (Proj.flat (Proj.rowsX (Proj.aX m c)) k q) := by
    intro k q
    unfold Proj.flat
    split
    · exact hf.x _
    · exact zero
  refine IsNum.add (IsNum.sum _ fun t => IsNum.sum _ fun k => IsNum.mul (hf.w _) ?_) (hf.b _)
  unfold tap at3
  split
  · exact hflat _ _
  · exact zero

section
variable (h0 : ProjRef.aX m' c = Proj.aX m c) (h1 : ProjRef.aW m' c = Proj.aW m c) (h2 : ProjRef.aB m' c = Proj.aB m c)
include h0 h1 h2

theorem y_apply (o : Fin 16) (v : Fin 262144) :
    ProjRef.y m' c (ix2 o v) = Proj.Y m c (ix3 ⟨v.val / 4096, by omega⟩ o ⟨v.val % 4096, by omega⟩) := by
  unfold ProjRef.y
  rw [h0, h1, h2]
  exact ProjRef.proj_apply _ _ _ o v

/-- The projections agree. -/
theorem y_eq : ProjRef.y m' c = Proj.OUTy (Proj.Y m c) := by
  funext i
  obtain ⟨o, v, rfl⟩ : ∃ (o : Fin 16) (v : Fin 262144), i = ix2 o v := ⟨_, _, (ix2_eta i).symm⟩
  exact (y_apply m m' c h0 h1 h2 o v).trans (OUTy_apply _ o v).symm

/-- Adding up over the voxels is adding up over the planes what each plane adds up. -/
theorem sum_y (g : EReal → EReal) (o : Fin 16) :
    ∑ v : Fin 262144, g (ProjRef.y m' c (ix2 o v)) = ∑ i : Fin 64, ∑ p : Fin 4096, g (Proj.Y m c (ix3 i o p)) := by
  rw [ProjRef.sum_voxels]
  refine Finset.sum_congr rfl fun i _ => Finset.sum_congr rfl fun p _ => ?_
  rw [y_apply m m' c h0 h1 h2]
  have e1 : (⟨(4096 * i.val + p.val) / 4096, by omega⟩ : Fin 64) = i := Fin.ext (by show (4096 * i.val + p.val) / 4096 = i.val; omega)
  have e2 : (⟨(4096 * i.val + p.val) % 4096, by omega⟩ : Fin 4096) = p := Fin.ext (by show (4096 * i.val + p.val) % 4096 = p.val; omega)
  rw [e1, e2]

theorem mean_apply (o : Fin 16) : ProjRun.mean (ProjRef.y m' c) (ix1 o) = Proj.OUTmu (Proj.ST m c) (ix1 o) := by
  rw [ProjRef.mean_apply, OUTmu_apply, sum_y m m' c h0 h1 h2 (fun a => a)]
  rfl

/-- The means agree. -/
theorem mean_eq : ProjRun.mean (ProjRef.y m' c) = Proj.OUTmu (Proj.ST m c) := by
  funext i
  obtain ⟨o, rfl⟩ : ∃ o : Fin 16, i = ix1 o := ⟨_, (ix1_eta i).symm⟩
  exact mean_apply m m' c h0 h1 h2 o

/-- The reciprocal roots agree. -/
theorem inv_eq (hf : Finite m c) :
    ProjRun.rootInv (ProjRun.mean (ProjRun.sqDiff (ProjRef.y m' c) (ProjRun.mean (ProjRef.y m' c)))) = Proj.OUTinv (Proj.ST m c) := by
  funext i
  obtain ⟨o, rfl⟩ : ∃ o : Fin 16, i = ix1 o := ⟨_, (ix1_eta i).symm⟩
  rw [ProjRef.rootInv_apply, ProjRef.mean_apply, OUTinv_apply, ← mean_apply m m' c h0 h1 h2]
  simp only [ProjRef.sqDiff_apply]
  rw [variance _ (fun v => by rw [y_apply m m' c h0 h1 h2]; exact y_isNum m c hf _ o _) _ (ProjRef.mean_apply _ o),
    sum_y m m' c h0 h1 h2 (fun a => a * a)]
  rfl

end

end Cert.ProjEq

end
-- ==== Proof.NormSum.lean ====
/-  The normalisation's running sum over the 27 taps: each step's vectors, read at one channel and lane. -/
module

public import proofs.«01_k».proof.Proof.Gen.NormaliseIdeal.Frame
public import proofs.«01_k».proof.Proof.Taps
public import proofs.«01_k».proof.Proof.Words
public import Idealize.ShloMosaic.Lib.Pipeline.ValueKit

@[expose] public section

set_option maxRecDepth 16384

noncomputable section

open Idealize.ShloMosaic Idealize.ShloMosaic.TcCoe Idealize.SL.Sem

namespace Cert.NormSum

open Cert.NormaliseIdeal Cert.NormaliseIdeal.Gen Cert.Taps

/-- One channel's normalisation and activation of one number. -/
def act (μ ν a x : EReal) : EReal := if 0 ≤ (x - μ) * ν then (x - μ) * ν else a * ((x - μ) * ν)

/-! ## One tap's term -/

section
variable (V : Fin 16 → ℕ → EReal) (μ ν : Fin 16 → EReal) (a : EReal) (n : ℕ) (hn : n < 64) (k : Fin 16) (p : ℕ) (hp : p < 4096)

/-- The normalised volume. -/
def norm (k : Fin 16) (q : ℕ) : EReal := act (μ k) (ν k) a (V k q)

include hn hp

/-- A masked, normalised read of the padded row is the normalised volume's tap. -/
theorem masked (A : Prop) [Decidable A] (t q : ℕ) (ht : t < 27) (hA : A ↔ inPlane t p ∧ 1 ≤ n + t / 9 ∧ n + t / 9 ≤ 64)
    (hq : q = 4031 + 4096 * n + 4096 * (t / 9) + 64 * (t / 3 % 3) + t % 3 + p) :
    (if A then act (μ k) (ν k) a (padded V k q) else 0) = tap (norm V μ ν a) n t k p := by
  by_cases h : A
  · rw [if_pos h]
    have h' := hA.mp h
    unfold inPlane at h'
    have e : q - 8192 = (n + t / 9 - 1) * 4096 + (p / 64 + t / 3 % 3 - 1) * 64 + (p % 64 + t % 3 - 1) := by omega
    unfold tap at3 padded
    rw [if_pos (show 8192 ≤ q ∧ q < 270336 by omega), if_pos ⟨h'.2, h'.1⟩, e]
    rfl
  · rw [if_neg h]
    unfold tap at3
    rw [if_neg (fun g => h (hA.mpr ⟨g.2, g.1⟩))]

/-- A factor of one or zero is a choice. -/
theorem mul_tmask (x : EReal) (t : ℕ) : x * tmask t p = if inPlane t p then x else 0 := by
  unfold tmask
  by_cases h : inPlane t p
  · rw [if_pos h, if_pos h, mul_one]
  · rw [if_neg h, if_neg h, mul_zero]

/-- A product of two such factors is a choice by both. -/
theorem mul_tmask_ite (x : EReal) (t : ℕ) (B : Prop) [Decidable B] : x * (tmask t p * if B then 1 else 0) = if B ∧ inPlane t p then x else 0 := by
  rw [ite_and]
  by_cases h : B
  · rw [if_pos h, if_pos h, mul_one]
    exact mul_tmask n hn p hp x t
  · rw [if_neg h, if_neg h, mul_zero, mul_zero]

theorem term_lo (t o : ℕ) (ht : t < 9) (ho : o = 63 + 64 * (t / 3 % 3) + t % 3) :
    act (μ k) (ν k) a (padded V k (3968 + 4096 * n + (o + p))) * (tmask t p * if 1 ≤ n then 1 else 0) = tap (norm V μ ν a) n t k p := by
  rw [mul_tmask_ite n hn p hp]
  exact masked V μ ν a n hn k p hp _ t _ (by omega) (by omega) (by omega)

theorem term_lo_mid : act (μ k) (ν k) a (padded V k (3968 + 4096 * n + (128 + p))) * (if 1 ≤ n then 1 else 0) = tap (norm V μ ν a) n 4 k p := by
  rw [mul_ite, mul_one, mul_zero]
  exact masked V μ ν a n hn k p hp _ 4 _ (by omega) (by unfold inPlane; omega) (by omega)

theorem term_in (t s o : ℕ) (ht : t = 9 + s ∧ s < 9) (ho : o = 4159 + 64 * (s / 3 % 3) + s % 3) :
    act (μ k) (ν k) a (padded V k (3968 + 4096 * n + (o + p))) * tmask s p = tap (norm V μ ν a) n t k p := by
  obtain ⟨rfl, hs⟩ := ht
  rw [mul_tmask n hn p hp]
  have e : (9 + s) / 3 % 3 = s / 3 % 3 ∧ (9 + s) % 3 = s % 3 ∧ (9 + s) / 9 = 1 := by omega
  exact masked V μ ν a n hn k p hp _ _ _ (by omega) (by unfold inPlane; rw [e.1, e.2.1, e.2.2]; omega) (by rw [e.1, e.2.1, e.2.2]; omega)

theorem term_in_mid : act (μ k) (ν k) a (padded V k (3968 + 4096 * n + (4224 + p))) = tap (norm V μ ν a) n 13 k p := by
  rw [← masked V μ ν a n hn k p hp True 13 (3968 + 4096 * n + (4224 + p)) (by omega) ⟨fun _ => by unfold inPlane; omega, fun _ => trivial⟩ (by omega), if_pos trivial]

theorem term_hi (t s o : ℕ) (ht : t = 18 + s ∧ s < 9) (ho : o = 8255 + 64 * (s / 3 % 3) + s % 3) :
    act (μ k) (ν k) a (padded V k (3968 + 4096 * n + (o + p))) * (tmask s p * if n ≤ 62 then 1 else 0) = tap (norm V μ ν a) n t k p := by
  obtain ⟨rfl, hs⟩ := ht
  rw [mul_tmask_ite n hn p hp]
  have e : (18 + s) / 3 % 3 = s / 3 % 3 ∧ (18 + s) % 3 = s % 3 ∧ (18 + s) / 9 = 2 := by omega
  exact masked V μ ν a n hn k p hp _ _ _ (by omega) (by unfold inPlane; rw [e.1, e.2.1, e.2.2]; omega) (by rw [e.1, e.2.1, e.2.2]; omega)

theorem term_hi_mid : act (μ k) (ν k) a (padded V k (3968 + 4096 * n + (8320 + p))) * (if n ≤ 62 then 1 else 0) = tap (norm V μ ν a) n 22 k p := by
  rw [mul_ite, mul_one, mul_zero]
  exact masked V μ ν a n hn k p hp _ 22 _ (by omega) (by unfold inPlane; omega) (by omega)

end

/-! ## The steps' vectors -/

/-- The factor of a plane `d` away: one where it lies in the volume, zero where not. -/
def gate (b d : BitVec 32) : Elt Ideal .f32 :=
  Scalar.select (Scalar.andi (Scalar.cmpi .sge (Scalar.addi b d) 0#32) (Scalar.cmpi .slt (Scalar.addi b d) 64#32))
    (Scalar.ofBits (F := Ideal) .f32 0x3F800000#32) (Scalar.ofBits (F := Ideal) .f32 0x00000000#32)

/-- A block of sixteen channels, less its mean, times its reciprocal deviation, activated. -/
def activated (μ ν : FVec Ideal S16x1 .f32) (a : Elt Ideal .f32) (X : FVec Ideal S16x4096 .f32) : FVec Ideal S16x4096 .f32 :=
  select (cmpf .oge (mulf (subf X (broadcastTo S16x4096 μ broadcasts_S16x1_S16x4096)) (broadcastTo S16x4096 ν broadcasts_S16x1_S16x4096))
      (broadcast S16x4096 (Scalar.ofBits (F := Ideal) .f32 0x00000000#32)))
    (mulf (subf X (broadcastTo S16x4096 μ broadcasts_S16x1_S16x4096)) (broadcastTo S16x4096 ν broadcasts_S16x1_S16x4096))
    (mulf (broadcast S16x4096 a) (mulf (subf X (broadcastTo S16x4096 μ broadcasts_S16x1_S16x4096)) (broadcastTo S16x4096 ν broadcasts_S16x1_S16x4096)))

/-- The normalised window, shifted by one tap. -/
def shifted (μ ν : FVec Ideal S16x1 .f32) (a : Elt Ideal .f32) (L : FVec Ideal S16x12544 .f32) (o : ℕ) (h : S16x12544.Slices ![0, o] S16x4096) : FVec Ideal S16x4096 .f32 :=
  activated μ ν a (extractStridedSlice S16x4096 ![0, o] L h)

/-- One step in a neighbouring plane. -/
def side (g : Elt Ideal .f32) (M : FVec Ideal S1x4096 .f32) (X acc : FVec Ideal S16x4096 .f32) : FVec Ideal S16x4096 .f32 :=
  addf acc (mulf X (broadcastTo S16x4096 (mulf M (broadcast S1x4096 g)) broadcasts_S1x4096_S16x4096))

/-- One step in the plane itself. -/
def inner (M : FVec Ideal S1x4096 .f32) (X acc : FVec Ideal S16x4096 .f32) : FVec Ideal S16x4096 .f32 :=
  addf acc (mulf X (broadcastTo S16x4096 M broadcasts_S1x4096_S16x4096))

/-- A neighbouring plane's middle step. -/
def middle (g : Elt Ideal .f32) (X acc : FVec Ideal S16x4096 .f32) : FVec Ideal S16x4096 .f32 :=
  addf acc (mulf X (broadcast S16x4096 g))

/-- The centre's step. -/
def centre (X acc : FVec Ideal S16x4096 .f32) : FVec Ideal S16x4096 .f32 := addf acc X

theorem gate_of (b d : BitVec 32) (z : Bool) (h : Scalar.andi (Scalar.cmpi .sge (Scalar.addi b d) 0#32) (Scalar.cmpi .slt (Scalar.addi b d) 64#32) = BitVec.ofBool z) :
    gate b d = if z then (1 : EReal) else 0 := by
  unfold gate
  rw [h]
  cases z
  · simp [Scalar.select, Ideal.ofBits_def, Ideal.ofBits_zero_f32]
  · simp [Scalar.select, Ideal.ofBits_def, Ideal.ofBits_one_f32]

theorem gate_lo (n : ℕ) (hn : n < 64) : gate (BitVec.ofNat 32 n) 4294967295#32 = if 1 ≤ n then (1 : EReal) else 0 := by
  have h : ∀ n : Fin 64, Scalar.andi (Scalar.cmpi .sge (Scalar.addi (BitVec.ofNat 32 n.val) 4294967295#32) 0#32)
      (Scalar.cmpi .slt (Scalar.addi (BitVec.ofNat 32 n.val) 4294967295#32) 64#32) = BitVec.ofBool (decide (1 ≤ n.val)) := by decide +kernel
  rw [gate_of _ _ _ (h ⟨n, hn⟩)]
  simp only [decide_eq_true_eq]

theorem gate_hi (n : ℕ) (hn : n < 64) : gate (BitVec.ofNat 32 n) 1#32 = if n ≤ 62 then (1 : EReal) else 0 := by
  have h : ∀ n : Fin 64, Scalar.andi (Scalar.cmpi .sge (Scalar.addi (BitVec.ofNat 32 n.val) 1#32) 0#32)
      (Scalar.cmpi .slt (Scalar.addi (BitVec.ofNat 32 n.val) 1#32) 64#32) = BitVec.ofBool (decide (n.val ≤ 62)) := by decide +kernel
  rw [gate_of _ _ _ (h ⟨n, hn⟩)]
  simp only [decide_eq_true_eq]

theorem shifted_apply (μ ν : Vec Ideal S16x1 .f32) (a : Elt Ideal .f32) (L : Vec Ideal S16x12544 .f32) (o : ℕ) (h : S16x12544.Slices ![0, o] S16x4096)
    (k : Fin 16) (p : Fin 4096) (q : Fin 12544) (hq : q.val = o + p.val) :
    shifted μ ν a L o h (ix2 k p) = act (μ (ix2 k 0)) (ν (ix2 k 0)) a (L (ix2 k q)) := by
  have e : extractStridedSlice S16x4096 ![0, o] L h (ix2 k p) = L (ix2 k q) :=
    extractStridedSlice_apply _ _ _ _ _ (fun d => by fin_cases d <;> simp [hq])
  unfold shifted
  rw [← e]
  generalize extractStridedSlice S16x4096 ![0, o] L h = X
  pointwise [activated]
  rfl

theorem shifted_at (V : Fin 16 → ℕ → EReal) (μ ν : Vec Ideal S16x1 .f32) (a : Elt Ideal .f32) (L : Vec Ideal S16x12544 .f32) (n : ℕ) (k : Fin 16) (p : Fin 4096)
    (hL : ∀ q : Fin 12544, L (ix2 k q) = padded V k (3968 + 4096 * n + q.val)) (o : ℕ) (h : S16x12544.Slices ![0, o] S16x4096) (ho : o ≤ 8448) :
    shifted μ ν a L o h (ix2 k p) = act (μ (ix2 k 0)) (ν (ix2 k 0)) a (padded V k (3968 + 4096 * n + (o + p.val))) := by
  rw [shifted_apply μ ν a L o h k p ⟨o + p.val, by have := p.isLt; omega⟩ rfl, hL]

theorem side_apply (g : Elt Ideal .f32) (M : Vec Ideal S1x4096 .f32) (X acc : Vec Ideal S16x4096 .f32) (k : Fin 16) (p : Fin 4096) :
    side g M X acc (ix2 k p) = acc (ix2 k p) + X (ix2 k p) * (M (ix2 0 p) * g) := by
  pointwise [side]

theorem inner_apply (M : Vec Ideal S1x4096 .f32) (X acc : Vec Ideal S16x4096 .f32) (k : Fin 16) (p : Fin 4096) :
    inner M X acc (ix2 k p) = acc (ix2 k p) + X (ix2 k p) * M (ix2 0 p) := by
  pointwise [inner]

theorem middle_apply (g : Elt Ideal .f32) (X acc : Vec Ideal S16x4096 .f32) (k : Fin 16) (p : Fin 4096) :
    middle g X acc (ix2 k p) = acc (ix2 k p) + X (ix2 k p) * g := by
  pointwise [middle]

theorem centre_apply (X acc : Vec Ideal S16x4096 .f32) (k : Fin 16) (p : Fin 4096) : centre X acc (ix2 k p) = acc (ix2 k p) + X (ix2 k p) := rfl

theorem start_apply (k : Fin 16) (p : Fin 4096) : (broadcast S16x4096 (Scalar.ofBits (F := Ideal) .f32 0x00000000#32) : Vec Ideal S16x4096 .f32) (ix2 k p) = 0 := by
  pointwise

/-! ## The payloads as steps -/

section
variable (b : BitVec 32) (μ ν : FVec Ideal S16x1 .f32) (a : Elt Ideal .f32) (L : FVec Ideal S16x12544 .f32) (acc : FVec Ideal S16x4096 .f32) (M M' M'' N : FVec Ideal S1x4096 .f32)

theorem pay20_eq : k0_pay20 b μ ν a M L = side (gate b 4294967295#32) M (shifted μ ν a (k0_pay19 L) 63 slices_S16x12544_o0_63_S16x4096) (broadcast S16x4096 (Scalar.ofBits (F := Ideal) .f32 0x00000000#32)) := rfl

theorem pay22_eq (K : Vec Ideal S16x12544 .f32) : k0_pay22 b μ ν a M M' L acc (k0_pay21 μ ν a K) (Scalar.addi b 4294967295#32)
    = side (gate b 4294967295#32) M' (shifted μ ν a L 65 slices_S16x12544_o0_65_S16x4096)
      (side (gate b 4294967295#32) M (shifted μ ν a (k0_pay19 K) 64 slices_S16x12544_o0_64_S16x4096) acc) := rfl

theorem pay25_eq : k0_pay25 b μ ν a M M' L acc (k0_pay23 μ ν a L) (k0_pay24 b)
    = side (gate b 4294967295#32) M' (shifted μ ν a L 129 slices_S16x12544_o0_129_S16x4096)
      (middle (gate b 4294967295#32) (shifted μ ν a L 128 slices_S16x12544_o0_128_S16x4096)
        (side (gate b 4294967295#32) M (shifted μ ν a L 127 slices_S16x12544_o0_127_S16x4096) acc)) := rfl

theorem pay27_eq : k0_pay27 b μ ν a M M' L acc (k0_pay26 μ ν L)
    = side (gate b 4294967295#32) M' (shifted μ ν a L 192 slices_S16x12544_o0_192_S16x4096)
      (side (gate b 4294967295#32) M (shifted μ ν a L 191 slices_S16x12544_o0_191_S16x4096) acc) := rfl

theorem pay29_eq : k0_pay29 μ ν a M M' M'' N L acc (k0_pay28 μ ν a L) (Scalar.addi b 4294967295#32)
    = inner M'' (shifted μ ν a L 4161 slices_S16x12544_o0_4161_S16x4096)
      (inner M' (shifted μ ν a L 4160 slices_S16x12544_o0_4160_S16x4096)
        (inner M (shifted μ ν a L 4159 slices_S16x12544_o0_4159_S16x4096)
          (side (gate b 4294967295#32) N (shifted μ ν a L 193 slices_S16x12544_o0_193_S16x4096) acc))) := rfl

theorem pay33_eq (K : Vec Ideal S16x12544 .f32) : k0_pay33 μ ν a M M' M'' (k0_pay19 K) acc (k0_pay30 μ ν (k0_pay19 K))
    = inner M'' (shifted μ ν a (k0_pay19 K) 4287 slices_S16x12544_o0_4287_S16x4096)
      (inner M' (shifted μ ν a (k0_pay19 K) 4225 slices_S16x12544_o0_4225_S16x4096)
        (centre (shifted μ ν a (k0_pay19 K) 4224 slices_S16x12544_o0_4224_S16x4096)
          (inner M (shifted μ ν a (k0_pay19 K) 4223 slices_S16x12544_o0_4223_S16x4096) acc))) := rfl

theorem pay36_eq : k0_pay36 b μ ν a M M' M'' L acc (k0_pay34 μ L) (k0_pay35 ν)
    = side (gate b 1#32) M (shifted μ ν a L 8255 slices_S16x12544_o0_8255_S16x4096)
      (inner M'' (shifted μ ν a L 4289 slices_S16x12544_o0_4289_S16x4096)
        (inner M' (shifted μ ν a L 4288 slices_S16x12544_o0_4288_S16x4096) acc)) := rfl

theorem pay40_eq : k0_pay40 b μ ν a M M' L acc (k0_pay37 μ ν L) (k0_pay38 μ ν L) (k0_pay39 μ ν a L)
    = side (gate b 1#32) M' (shifted μ ν a L 8257 slices_S16x12544_o0_8257_S16x4096)
      (side (gate b 1#32) M (shifted μ ν a L 8256 slices_S16x12544_o0_8256_S16x4096) acc) := rfl

theorem pay42_eq : k0_pay42 b μ ν a M M' L acc (k0_pay41 μ ν a L) (Scalar.andi (Scalar.cmpi .sge (Scalar.addi b 1#32) 0#32) (Scalar.cmpi .slt (Scalar.addi b 1#32) 64#32))
    = side (gate b 1#32) M' (shifted μ ν a L 8321 slices_S16x12544_o0_8321_S16x4096)
      (middle (gate b 1#32) (shifted μ ν a L 8320 slices_S16x12544_o0_8320_S16x4096)
        (side (gate b 1#32) M (shifted μ ν a L 8319 slices_S16x12544_o0_8319_S16x4096) acc)) := rfl

theorem pay45_eq : k0_pay45 b μ ν a M M' L acc (k0_pay43 L) (k0_pay44 μ)
    = side (gate b 1#32) M' (shifted μ ν a L 8384 slices_S16x12544_o0_8384_S16x4096)
      (side (gate b 1#32) M (shifted μ ν a L 8383 slices_S16x12544_o0_8383_S16x4096) acc) := rfl

theorem pay1_eq : k0_pay1 b M acc (k0_pay46 μ ν L) (k0_pay47 μ ν L) (k0_pay48 μ ν a L)
    = shapeCast S1x16x4096 (mulf (side (gate b 1#32) M (shifted μ ν a L 8385 slices_S16x12544_o0_8385_S16x4096) acc)
        (broadcast S16x4096 (Named.named (F := Ideal) κ "inv_27" (φ := .f32) 0x3D17B426#32))) shapeCasts_S16x4096_S1x16x4096 := rfl

end

/-- The sum times the named reciprocal, read at one place. -/
theorem mean_apply (X : Vec Ideal S16x4096 .f32) (k : Fin 16) (p : Fin 4096) :
    shapeCast S1x16x4096 (mulf X (broadcast S16x4096 (Named.named (F := Ideal) κ "inv_27" (φ := .f32) 0x3D17B426#32))) shapeCasts_S16x4096_S1x16x4096 (ix3 0 k p)
      = X (ix2 k p) * ((27⁻¹ : ℝ) : EReal) := by
  rw [show Named.named (F := Ideal) κ "inv_27" (φ := .f32) 0x3D17B426#32 = ((27⁻¹ : ℝ) : EReal) from IdealRules.named_const.ideal_named_scalar _ _ _ _ rfl]
  pointwise

end Cert.NormSum

end
-- ==== Proof.NormBlk.lean ====
/-  What one grid point of the normalisation stores: the normalised plane, and the mean over the 27 taps. -/
module

public import proofs.«01_k».proof.Proof.Gen.NormaliseIdeal.Frame
public import proofs.«01_k».proof.Proof.Taps
public import proofs.«01_k».proof.Proof.Words
public import proofs.«01_k».proof.Proof.NormSum
public import Idealize.ShloMosaic.Lib.Pipeline.ValueKit

@[expose] public section

set_option maxRecDepth 16384

noncomputable section

open Idealize.ShloMosaic Idealize.ShloMosaic.TcCoe Idealize.SL.Sem

namespace Cert.NormBlk

open Cert.NormaliseIdeal Cert.NormaliseIdeal.Gen Cert.Taps Cert.NormSum

/-- The body's window of the padded row starts 4224 before the plane. -/
theorem off1_eq (i : grid0.Coords) : k0_off1 i 0 = 0 ∧ k0_off1 i 1 = 3968 + 4096 * (i 0).val := by
  have : ∀ j : Fin 64, (Scalar.indexCast (Scalar.subi (Scalar.addi 8192#32 (Scalar.muli (BitVec.ofNat 32 j.val) 4096#32)) 4224#32)).toNat = 3968 + 4096 * j.val := by
    decide +kernel
  exact ⟨rfl, this (i 0)⟩

variable (c : Dev nD) (i : grid0.Coords) (arg1 : Memref sig .tc .vmem S16x278528 .f32) (harg1 : arg1.IsWhole) (arg2 : Memref sig .tc .vmem S16x1 .f32) (harg2 : arg2.IsWhole) (arg3 : Memref sig .tc .vmem S16x1 .f32) (harg3 : arg3.IsWhole) (arg4 : Memref sig .tc .vmem S1x1 .f32) (harg4 : arg4.IsWhole) (arg5 : Memref sig .tc .vmem S1x16x4096 .f32) (harg5 : arg5.IsWhole) (arg6 : Memref sig .tc .vmem S1x16x4096 .f32) (harg6 : arg6.IsWhole)
  (x0 : Vec Ideal S16x278528 .f32) (x1 : Vec Ideal S16x1 .f32) (x2 : Vec Ideal S16x1 .f32) (x3 : Vec Ideal S1x1 .f32)

/-- The window of the padded row, read at a lane. -/
theorem window_apply (V : Fin 16 → ℕ → EReal) (hx0 : ∀ (k : Fin 16) (q : Fin 278528), x0 (ix2 k q) = padded V k q.val) (k : Fin 16) (q : Fin 12544) :
    k0_pay19 (View.ld x0 (Rect.unit (s := S16x278528) (k0_off1 i) S16x12544.size (k0_off1_inb i))) (ix2 k q) = padded V k (3968 + 4096 * (i 0).val + q.val) := by
  have hi : (i 0).val < 64 := (i 0).isLt
  pointwise [k0_pay19]
  rw [← (off1_eq i).2]
  refine (congrArg x0 ?_).trans (hx0 k ⟨k0_off1 i 1 + q.val, by rw [(off1_eq i).2]; omega⟩)
  congr 1
  apply Fin.ext
  show k0_off1 i 0 + k.val = k.val
  rw [(off1_eq i).1]; omega

/-- The eight masks of the plane's edges. -/
theorem masks_apply (p : Fin 4096) :
    k0_pay8 (F := Idealize.ShloMosaic.Ideal) k0_pay7 (ix2 0 p) = tmask 0 p.val ∧ k0_pay9 (F := Idealize.ShloMosaic.Ideal) k0_pay5 (ix2 0 p) = tmask 1 p.val
    ∧ k0_pay10 (F := Idealize.ShloMosaic.Ideal) k0_pay5 k0_pay6 (ix2 0 p) = tmask 2 p.val ∧ k0_pay11 (F := Idealize.ShloMosaic.Ideal) k0_pay6 (ix2 0 p) = tmask 3 p.val
    ∧ k0_pay12 (F := Idealize.ShloMosaic.Ideal) k0_pay6 (ix2 0 p) = tmask 5 p.val ∧ k0_pay13 (F := Idealize.ShloMosaic.Ideal) k0_pay5 k0_pay6 (ix2 0 p) = tmask 6 p.val
    ∧ k0_pay17 (F := Idealize.ShloMosaic.Ideal) (k0_pay14 k0_pay5) k0_pay15 k0_pay16 (ix2 0 p) = tmask 7 p.val
    ∧ k0_pay18 (F := Idealize.ShloMosaic.Ideal) k0_pay5 k0_pay6 (ix2 0 p) = tmask 8 p.val := by
  have hp : p.val < 4096 := p.isLt
  have hh : p.val / 64 < 4096 := by omega
  have hw : p.val % 64 < 4096 := by omega
  refine ⟨?_, ?_, ?_, ?_, ?_, ?_, ?_, ?_⟩
  all_goals
    pointwise [k0_pay5, k0_pay6, k0_pay7, k0_pay8, k0_pay9, k0_pay10, k0_pay11, k0_pay12, k0_pay13, k0_pay14, k0_pay15, k0_pay16, k0_pay17, k0_pay18]
    simp only [row_word _ hp, col_word _ hp, sge_one _ hh, sge_one _ hw, sle_62 _ hh, sle_62 _ hw, select_and, select_one]
    unfold tmask inPlane
    refine if_congr ?_ rfl rfl
    omega

theorem act_apply (V : Fin 16 → ℕ → EReal) (hx0 : ∀ (k : Fin 16) (q : Fin 278528), x0 (ix2 k q) = padded V k q.val) (k : Fin 16) (p : Fin 4096) :
    out0_A_4 c i arg1 harg1 arg2 harg2 arg3 harg3 arg4 harg4 arg5 harg5 arg6 harg6 x0 x1 x2 x3 (ix3 0 k p)
      = act (x1 (ix2 k 0)) (x2 (ix2 k 0)) (x3 (ix2 0 0)) (V k (4096 * (i 0).val + p.val)) := by
  have hi : (i 0).val < 64 := (i 0).isLt
  frame_out
  have hL := window_apply i x0 V hx0
  revert hL
  generalize View.ld x0 _ = L
  intro hL
  pointwise [k0_pay32, k0_pay31, k0_pay2, k0_pay3, k0_pay4]
  rw [hL]
  unfold act padded
  rw [if_pos (show 8192 ≤ 3968 + 4096 * (i 0).val + (4224 + p.val) ∧ 3968 + 4096 * (i 0).val + (4224 + p.val) < 270336 by omega),
    show 3968 + 4096 * (i 0).val + (4224 + p.val) - 8192 = 4096 * (i 0).val + p.val by omega]

/-- What the launch's second block holds: at each channel and lane, the mean of the normalised volume's 27 taps. -/
theorem box_apply (V : Fin 16 → ℕ → EReal) (hx0 : ∀ (k : Fin 16) (q : Fin 278528), x0 (ix2 k q) = padded V k q.val) (k : Fin 16) (p : Fin 4096) :
    out0_A_5 c i arg1 harg1 arg2 harg2 arg3 harg3 arg4 harg4 arg5 harg5 arg6 harg6 x0 x1 x2 x3 (ix3 0 k p)
      = (∑ t ∈ Finset.range 27, tap (norm V (fun k => x1 (ix2 k 0)) (fun k => x2 (ix2 k 0)) (x3 (ix2 0 0))) (i 0).val t k p.val) * ((27⁻¹ : ℝ) : EReal) := by
  have hi : (i 0).val < 64 := (i 0).isLt
  have m := masks_apply p
  frame_out
  have hL := window_apply i x0 V hx0
  revert hL
  generalize View.ld x0 _ = K
  intro hL
  rw [pay1_eq, pay45_eq, pay42_eq, pay40_eq, pay36_eq, pay33_eq, pay29_eq, pay27_eq, pay25_eq, pay22_eq, pay20_eq, mean_apply]
  refine congrArg (· * _) ?_
  simp only [side_apply, inner_apply, middle_apply, centre_apply, start_apply, m, gate_lo _ hi, gate_hi _ hi,
    shifted_at V _ _ _ _ _ k p (hL k), Nat.reduceLeDiff, Finset.sum_range_succ, Finset.sum_range_zero]
  have e1 : k0_pay2 x1 (ix2 k 0) = x1 (ix2 k 0) := by pointwise [k0_pay2]
  have e2 : k0_pay3 x2 (ix2 k 0) = x2 (ix2 k 0) := by pointwise [k0_pay3]
  have e3 : k0_pay4 x3 = x3 (ix2 0 0) := by pointwise [k0_pay4]
  rw [e1, e2, e3]
  clear e1 e2 e3
  have lo := term_lo V (fun k => x1 (ix2 k 0)) (fun k => x2 (ix2 k 0)) (x3 (ix2 0 0)) _ hi k p.val p.isLt
  have mid := term_in V (fun k => x1 (ix2 k 0)) (fun k => x2 (ix2 k 0)) (x3 (ix2 0 0)) _ hi k p.val p.isLt
  have up := term_hi V (fun k => x1 (ix2 k 0)) (fun k => x2 (ix2 k 0)) (x3 (ix2 0 0)) _ hi k p.val p.isLt
  with_reducible repeat' refine congrArg₂ (· + ·) ?_ ?_
  exacts [start_apply k p,
    lo 0 63 (by decide) rfl, lo 1 64 (by decide) rfl, lo 2 65 (by decide) rfl, lo 3 127 (by decide) rfl,
    term_lo_mid V (fun k => x1 (ix2 k 0)) (fun k => x2 (ix2 k 0)) (x3 (ix2 0 0)) _ hi k p.val p.isLt,
    lo 5 129 (by decide) rfl, lo 6 191 (by decide) rfl, lo 7 192 (by decide) rfl, lo 8 193 (by decide) rfl,
    mid 9 0 4159 (by decide) rfl, mid 10 1 4160 (by decide) rfl, mid 11 2 4161 (by decide) rfl, mid 12 3 4223 (by decide) rfl,
    term_in_mid V (fun k => x1 (ix2 k 0)) (fun k => x2 (ix2 k 0)) (x3 (ix2 0 0)) _ hi k p.val p.isLt,
    mid 14 5 4225 (by decide) rfl, mid 15 6 4287 (by decide) rfl, mid 16 7 4288 (by decide) rfl, mid 17 8 4289 (by decide) rfl,
    up 18 0 8255 (by decide) rfl, up 19 1 8256 (by decide) rfl, up 20 2 8257 (by decide) rfl, up 21 3 8319 (by decide) rfl,
    term_hi_mid V (fun k => x1 (ix2 k 0)) (fun k => x2 (ix2 k 0)) (x3 (ix2 0 0)) _ hi k p.val p.isLt,
    up 23 5 8321 (by decide) rfl, up 24 6 8383 (by decide) rfl, up 25 7 8384 (by decide) rfl, up 26 8 8385 (by decide) rfl]

end Cert.NormBlk

end
-- ==== Proof.NormKernel.lean ====
/-  The normalisation's two result arrays, read from the launch's arguments. -/
module

public import proofs.«01_k».proof.Proof.NormBlk

@[expose] public section

set_option maxRecDepth 16384

noncomputable section

open Idealize.ShloMosaic Idealize.ShloMosaic.TcCoe Idealize.SL.Sem

namespace Cert.Norm

open Cert.NormaliseIdeal Cert.NormaliseIdeal.Gen Cert.Taps Cert.NormSum

/-- The normalised plane `i` at channel `k`, lane `p`. -/
def ynAt (y : Vec Ideal S64x16x4096 .f32) (μ ν : Vec Ideal S16 .f32) (a : Vec Ideal S_ .f32) (k : Fin 16) (q : ℕ) : EReal :=
  norm (vol y) (fun k => μ (ix1 k)) (fun k => ν (ix1 k)) (a ix0) k q

/-- The two arrays: plane, channel, lane. -/
def outYn (y : Vec Ideal S64x16x4096 .f32) (μ ν : Vec Ideal S16 .f32) (a : Vec Ideal S_ .f32) : Vec Ideal S64x16x4096 .f32 :=
  fun j => ynAt y μ ν a (j 1) (4096 * (j 0).val + (j 2).val)
def outXm (y : Vec Ideal S64x16x4096 .f32) (μ ν : Vec Ideal S16 .f32) (a : Vec Ideal S_ .f32) : Vec Ideal S64x16x4096 .f32 :=
  fun j => (∑ t ∈ Finset.range 27, tap (ynAt y μ ν a) (j 0).val t (j 1) (j 2).val) * ((27⁻¹ : ℝ) : EReal)

variable (m : (ℓ : Loc nD τ sig) → Buf (Elt Ideal) ℓ) (c : Dev nD)

/-- The arguments of the launch, by name. -/
abbrev aY : Vec Ideal S64x16x4096 .f32 := m ((c : Thread nD τ).loc main_arg0)
abbrev aMu : Vec Ideal S16 .f32 := m ((c : Thread nD τ).loc main_arg1)
abbrev aInv : Vec Ideal S16 .f32 := m ((c : Thread nD τ).loc main_arg2)
abbrev aA : Vec Ideal S_ .f32 := m ((c : Thread nD τ).loc main_arg3)

/-- The padding value: the integer zero, converted. -/
theorem sitofp_zero : sitofp (F := Idealize.ShloMosaic.Ideal) .f32 (constantI S_ 32 0#32) (Shape.Idx.first h_S_) = 0 := by
  show (((0#32 : BitVec 32).toInt : ℝ) : EReal) = 0
  simp

theorem V_v2 (k : Fin 16) (q : Fin 278528) : (V m c main_v2 : Vec Ideal S16x278528 .f32) (ix2 k q) = padded (vol (aY m c)) k q.val := by
  have h : (V m c main_v2 : Vec Ideal S16x278528 .f32) = pad S16x278528 ![0, 8192] ![0, 8192] ![0, 0]
      (shapeCast S16x262144 (transpose S16x64x4096 [1, 0, 2] (aY m c) transposes_S64x16x4096_S16x64x4096_1_0_2) shapeCasts_S16x64x4096_S16x262144)
      (sitofp (F := Ideal) .f32 (constantI S_ 32 0#32)) pads_S16x262144_S16x278528_000_819281920 h_S_ := by
    dsimp only [V]
    simp only [hostOps0, hostOps0_1, hostOps0_2, List.flatten_cons, List.flatten_nil, List.append_nil, List.cons_append, List.nil_append]
    after_results
    rfl
  rw [h]
  generalize aY m c = y
  refine pad_flat _ _ _ _ sitofp_zero _ (fun k q => ?_) k q
  pointwise
  rw [vol, dif_pos q.isLt]

theorem V_v3 (k : Fin 16) : (V m c main_v3 : Vec Ideal S16x1 .f32) (ix2 k 0) = aMu m c (ix1 k) := by
  have h : (V m c main_v3 : Vec Ideal S16x1 .f32) = shapeCast S16x1 (aMu m c) shapeCasts_S16_S16x1 := by
    dsimp only [V]
    simp only [hostOps0, hostOps0_1, hostOps0_2, List.flatten_cons, List.flatten_nil, List.append_nil, List.cons_append, List.nil_append]
    after_results
    rfl
  rw [h]
  pointwise

theorem V_v4 (k : Fin 16) : (V m c main_v4 : Vec Ideal S16x1 .f32) (ix2 k 0) = aInv m c (ix1 k) := by
  have h : (V m c main_v4 : Vec Ideal S16x1 .f32) = shapeCast S16x1 (aInv m c) shapeCasts_S16_S16x1 := by
    dsimp only [V]
    simp only [hostOps0, hostOps0_1, hostOps0_2, List.flatten_cons, List.flatten_nil, List.append_nil, List.cons_append, List.nil_append]
    after_results
    rfl
  rw [h]
  pointwise

theorem V_v5 : (V m c main_v5 : Vec Ideal S1x1 .f32) (ix2 0 0) = aA m c ix0 := by
  have h : (V m c main_v5 : Vec Ideal S1x1 .f32) = shapeCast S1x1 (aA m c) shapeCasts_S_S1x1 := by
    dsimp only [V]
    simp only [hostOps0, hostOps0_1, hostOps0_2, List.flatten_cons, List.flatten_nil, List.append_nil, List.cons_append, List.nil_append]
    after_results
    rfl
  rw [h]
  pointwise

/-- The plane a grid point works on. -/
def plane (t : Fin cfg0.N) : Fin 64 := ⟨(grid0.coords t 0).val, (grid0.coords t 0).isLt⟩

/-- Where every window's block lies. -/
theorem idx : ∀ t : Fin cfg0.N, win0_0.index t = ![0, 0] ∧ win0_1.index t = ![0, 0] ∧ win0_2.index t = ![0, 0] ∧ win0_3.index t = ![0, 0]
    ∧ win0_4.index t = ![(grid0.coords t 0).val, 0, 0] ∧ win0_5.index t = ![(grid0.coords t 0).val, 0, 0] :=
  (by decide +kernel : ∀ t : Fin grid0.N, _)

theorem blk0 (t : Fin cfg0.N) (k : Fin 16) (q : Fin 278528) : (iblk m c 0 t : Vec Ideal S16x278528 .f32) (ix2 k q) = padded (vol (aY m c)) k q.val := by
  refine Eq.trans ?_ (V_v2 m c k q)
  blk_ext [iblk, idx t, plane]
theorem blk1 (t : Fin cfg0.N) (k : Fin 16) : (iblk m c 1 t : Vec Ideal S16x1 .f32) (ix2 k 0) = aMu m c (ix1 k) := by
  refine Eq.trans ?_ (V_v3 m c k)
  blk_ext [iblk, idx t, plane]
theorem blk2 (t : Fin cfg0.N) (k : Fin 16) : (iblk m c 2 t : Vec Ideal S16x1 .f32) (ix2 k 0) = aInv m c (ix1 k) := by
  refine Eq.trans ?_ (V_v4 m c k)
  blk_ext [iblk, idx t, plane]
theorem blk3 (t : Fin cfg0.N) : (iblk m c 3 t : Vec Ideal S1x1 .f32) (ix2 0 0) = aA m c ix0 := by
  refine Eq.trans ?_ (V_v5 m c)
  blk_ext [iblk, idx t, plane]

/-- What a grid point stores of the normalised volume. -/
theorem stored4 (t : Fin cfg0.N) (k : Fin 16) (p : Fin 4096) :
    ((outsAt0 m c t).1 : Vec Ideal S1x16x4096 .f32) (ix3 0 k p) = outYn (aY m c) (aMu m c) (aInv m c) (aA m c) (ix3 (plane t) k p) := by
  unfold outsAt0
  dsimp only
  rw [NormBlk.act_apply (V := vol (aY m c)) (hx0 := blk0 m c t)]
  simp only [blk1, blk2, blk3]
  rfl

/-- What a grid point stores of the box means. -/
theorem stored5 (t : Fin cfg0.N) (k : Fin 16) (p : Fin 4096) :
    ((outsAt0 m c t).2 : Vec Ideal S1x16x4096 .f32) (ix3 0 k p) = outXm (aY m c) (aMu m c) (aInv m c) (aA m c) (ix3 (plane t) k p) := by
  unfold outsAt0
  dsimp only
  rw [NormBlk.box_apply (V := vol (aY m c)) (hx0 := blk0 m c t)]
  simp only [blk1, blk2, blk3]
  rfl

/-- After the last grid point the first array is `outYn`. -/
theorem arr4 : (dats (F := Idealize.ShloMosaic.Ideal) m 0 c).arrAt 4 cfg0.N = outYn (aY m c) (aMu m c) (aInv m c) (aA m c) := by
  refine (dats m 0 c).arrAt_eq_of_covers 4 _ (by decide +kernel) fun t hf y => ?_
  blk_simp
  rw [after0_4]
  have hy : y = (ix3 0 (y 1) (y 2) : S1x16x4096.Idx) := by blk_ext
  have he : (win0_4.blk t).view.emb y = (ix3 (plane t) (y 1) (y 2) : S64x16x4096.Idx) := by blk_ext [idx t, plane]
  rw [he]
  exact (congrArg (outsAt0 m c t).1 hy).trans (stored4 m c t (y 1) (y 2))

/-- After the last grid point the second array is `outXm`. -/
theorem arr5 : (dats (F := Idealize.ShloMosaic.Ideal) m 0 c).arrAt 5 cfg0.N = outXm (aY m c) (aMu m c) (aInv m c) (aA m c) := by
  refine (dats m 0 c).arrAt_eq_of_covers 5 _ (by decide +kernel) fun t hf y => ?_
  blk_simp
  rw [after0_5]
  have hy : y = (ix3 0 (y 1) (y 2) : S1x16x4096.Idx) := by blk_ext
  have he : (win0_5.blk t).view.emb y = (ix3 (plane t) (y 1) (y 2) : S64x16x4096.Idx) := by blk_ext [idx t, plane]
  rw [he]
  exact (congrArg (outsAt0 m c t).2 hy).trans (stored5 m c t (y 1) (y 2))

/-- The run: the results are the two arrays, by name. -/
theorem run (ρ : Dev nD → PrngReg) : θ_run defs (onTc (τ := τ) (main (F := Idealize.ShloMosaic.Ideal))) ⟨m, fun _ => 0, ρ⟩ (fun r => ∀ c : Dev nD,
    r.2.mem ((c.tc : Thread nD τ).loc main_v6_0) = outYn (aY m c) (aMu m c) (aInv m c) (aA m c)
      ∧ r.2.mem ((c.tc : Thread nD τ).loc main_v6_1) = outXm (aY m c) (aMu m c) (aInv m c) (aA m c)) :=
  (θ_run defs _ _).mono (fun _ h c => ⟨((h c).1 4).trans (arr4 m c), ((h c).1 5).trans (arr5 m c)⟩) (run_main m ρ)

end Cert.Norm

end
-- ==== Proof.NormRef.lean ====
/-  The plain normalisation and box mean read at a plane, a channel and a lane. -/
module

public import proofs.«01_k».proof.Proof.Gen.NormalisationIdeal.Run
public import proofs.«01_k».proof.Proof.DynRef
public import proofs.«01_k».proof.Proof.NormKernel

@[expose] public section

set_option maxRecDepth 16384

noncomputable section

open Idealize.ShloMosaic Idealize.ShloMosaic.TcCoe Idealize.SL.Sem

namespace Cert.NormRef

open Cert.NormalisationIdeal Cert.NormalisationIdeal.Gen Cert.NormalisationIdeal.Value Cert.Taps Cert.Norm

/-- One number per channel, all over the volume. -/
def spread (x : Vec Ideal S16 .f32) : Vec Ideal S1x16x64x64x64 .f32 :=
  broadcastInDim S1x16x64x64x64 ![0, 1, 2, 3, 4] bcast_S1x16x1x1x1_S1x16x64x64x64_0_1_2_3_4 (broadcastInDim S1x16x1x1x1 ![1] bcast_S16_S1x16x1x1x1_1 x)

/-- The normalised volume before its activation. -/
def scaled (y : Vec Ideal S64x16x4096 .f32) (μ ν : Vec Ideal S16 .f32) : Vec Ideal S1x16x64x64x64 .f32 :=
  mulf (F := Ideal) (φ := .f32) (subf (F := Ideal) (φ := .f32)
    (shapeCast S1x16x64x64x64 (transpose S16x64x4096 [1, 0, 2] y transposes_S64x16x4096_S16x64x4096_1_0_2) shapeCasts_S16x64x4096_S1x16x64x64x64)
    (spread μ)) (spread ν)

/-- The activation. -/
def prelu (z : Vec Ideal S1x16x64x64x64 .f32) (a : Vec Ideal S_ .f32) : Vec Ideal S1x16x64x64x64 .f32 :=
  select (cmpf (F := Ideal) (φ := .f32) .oge z (broadcastInDim S1x16x64x64x64 ![] bcast_S_S1x16x64x64x64 (constant S_ .f32 0x00000000#32))) z
    (mulf (F := Ideal) (φ := .f32) (broadcastInDim S1x16x64x64x64 ![] bcast_S_S1x16x64x64x64 a) z)

/-- A volume with a layer of zeros around it. -/
def cube (x : Vec Ideal S1x16x64x64x64 .f32) : Vec Ideal S1x16x66x66x66 .f32 :=
  pad S1x16x66x66x66 ![0, 0, 1, 1, 1] ![0, 0, 1, 1, 1] ![0, 0, 0, 0, 0] x
    (sitofp (F := Ideal) .f32 (constantI S_ 32 0#32)) pads_S1x16x64x64x64_S1x16x66x66x66_000_000_110_110_110 h_S_

/-- A volume laid out as planes. -/
def planes (x : Vec Ideal S1x16x64x64x64 .f32) : Vec Ideal S64x16x4096 .f32 :=
  transpose S64x16x4096 [1, 0, 2] (shapeCast S16x64x4096 x shapeCasts_S1x16x64x64x64_S16x64x4096) transposes_S16x64x4096_S64x16x4096_1_0_2

/-- The mean over a stack of 27 volumes, laid out as planes. -/
def mean (St : Vec Ideal S1x16x27x64x64x64 .f32) : Vec Ideal S64x16x4096 .f32 :=
  transpose S64x16x4096 [1, 0, 2] (shapeCast S16x64x4096 (shapeCast S16x262144
    (Host.divf (F := Ideal) (φ := .f32)
      (Host.reduceAdd (F := Ideal) (φ := .f32) (shapeCast S1x16x27x262144 St shapeCasts_S1x16x27x64x64x64_S1x16x27x262144)
        (constant S_ .f32 0x00000000#32) reducesTo_S1x16x27x262144_S1x16x262144_d2 h_S_)
      (broadcastInDim S1x16x262144 ![] bcast_S_S1x16x262144 (constant S_ .f32 0x41D80000#32)))
    shapeCasts_S1x16x262144_S16x262144) shapeCasts_S16x262144_S16x64x4096) transposes_S16x64x4096_S64x16x4096_1_0_2

variable (m : (ℓ : Loc nD τ sig) → Buf (Elt Ideal) ℓ) (c : Dev nD)

/-- The arguments of the launch, by name. -/
abbrev aY : Vec Ideal S64x16x4096 .f32 := m ((c : Thread nD τ).loc main_arg0)
abbrev aMu : Vec Ideal S16 .f32 := m ((c : Thread nD τ).loc main_arg1)
abbrev aInv : Vec Ideal S16 .f32 := m ((c : Thread nD τ).loc main_arg2)
abbrev aA : Vec Ideal S_ .f32 := m ((c : Thread nD τ).loc main_arg3)

set_option maxHeartbeats 4000000 in
theorem res_eq : res_out1 (F := Ideal) m c = mean (DynRef.stack (cube (prelu (scaled (aY m c) (aMu m c) (aInv m c)) (aA m c)))) := by
  rfl

theorem prelu_apply (y : Vec Ideal S64x16x4096 .f32) (μ ν : Vec Ideal S16 .f32) (a : Vec Ideal S_ .f32) (k : Fin 16) (d h w : Fin 64) :
    prelu (scaled y μ ν) a (ix5 0 k d h w) = ynAt y μ ν a k (d.val * 4096 + h.val * 64 + w.val) := by
  unfold ynAt NormSum.norm NormSum.act
  rw [← vol_apply]
  pointwise [prelu, scaled, spread]

theorem cube_apply (y : Vec Ideal S64x16x4096 .f32) (μ ν : Vec Ideal S16 .f32) (a : Vec Ideal S_ .f32) (k : Fin 16) (d h w : Fin 66) :
    cube (prelu (scaled y μ ν) a) (ix5 0 k d h w) = at3 (ynAt y μ ν a) k d.val h.val w.val :=
  pad_cube _ _ _ _ sitofp_zero _ (fun k d h w => prelu_apply y μ ν a k d h w) k d h w

theorem stack_tap (y : Vec Ideal S64x16x4096 .f32) (μ ν : Vec Ideal S16 .f32) (a : Vec Ideal S_ .f32) (k : Fin 16) (t : Fin 27) (d h w : Fin 64) :
    DynRef.stack (cube (prelu (scaled y μ ν) a)) (ix6 0 k t d h w) = tap (ynAt y μ ν a) d.val t.val k (h.val * 64 + w.val) := by
  rw [DynRef.stack_apply, cube_apply]
  unfold tap
  have e1 : (h.val * 64 + w.val) / 64 = h.val := by omega
  have e2 : (h.val * 64 + w.val) % 64 = w.val := by omega
  rw [e1, e2, Nat.add_comm d.val, Nat.add_comm h.val, Nat.add_comm w.val]

theorem planes_apply (x : Vec Ideal S1x16x64x64x64 .f32) (i : Fin 64) (k : Fin 16) (p : Fin 4096) :
    planes x (ix3 i k p) = x (ix5 0 k i ⟨p.val / 64, by omega⟩ ⟨p.val % 64, by omega⟩) := by
  pointwise [planes]

/-- The number of taps. -/
theorem count : Ideal.ofBits .f32 0x41D80000#32 = ((27 : ℝ) : EReal) := by
  simp [Ideal.ofBits, Ideal.ieee, -EReal.coe_mul]
  norm_num

theorem mean_apply (St : Vec Ideal S1x16x27x64x64x64 .f32) (i : Fin 64) (k : Fin 16) (p : Fin 4096) :
    mean St (ix3 i k p) = (∑ t : Fin 27, St (ix6 0 k t i ⟨p.val / 64, by omega⟩ ⟨p.val % 64, by omega⟩)) * ((27⁻¹ : ℝ) : EReal) := by
  have e1 : (⟨(i.val * 4096 + p.val) / 64 % 64, by omega⟩ : Fin 64) = ⟨p.val / 64, by omega⟩ := Fin.ext (by show (i.val * 4096 + p.val) / 64 % 64 = p.val / 64; omega)
  have e2 : (⟨(i.val * 4096 + p.val) % 64, by omega⟩ : Fin 64) = ⟨p.val % 64, by omega⟩ := Fin.ext (by show (i.val * 4096 + p.val) % 64 = p.val % 64; omega)
  pointwise [mean]
  rw [count, Ideal.div_coe (by norm_num), one_div, e1, e2]

/-- The plain normalisation's array. -/
theorem planes_eq (y : Vec Ideal S64x16x4096 .f32) (μ ν : Vec Ideal S16 .f32) (a : Vec Ideal S_ .f32) : planes (prelu (scaled y μ ν) a) = outYn y μ ν a := by
  funext j
  obtain ⟨i, k, p, rfl⟩ : ∃ (i : Fin 64) (k : Fin 16) (p : Fin 4096), j = ix3 i k p := ⟨j 0, j 1, j 2, by funext d; fin_cases d <;> rfl⟩
  rw [planes_apply, prelu_apply]
  refine congrArg (ynAt y μ ν a k) ?_
  show i.val * 4096 + p.val / 64 * 64 + p.val % 64 = 4096 * i.val + p.val
  omega

/-- The plain box mean's array. -/
theorem mean_eq (y : Vec Ideal S64x16x4096 .f32) (μ ν : Vec Ideal S16 .f32) (a : Vec Ideal S_ .f32) :
    mean (DynRef.stack (cube (prelu (scaled y μ ν) a))) = outXm y μ ν a := by
  funext j
  obtain ⟨i, k, p, rfl⟩ : ∃ (i : Fin 64) (k : Fin 16) (p : Fin 4096), j = ix3 i k p := ⟨j 0, j 1, j 2, by funext d; fin_cases d <;> rfl⟩
  rw [mean_apply]
  have e : p.val / 64 * 64 + p.val % 64 = p.val := by omega
  simp only [stack_tap, e]
  show _ = (∑ t ∈ Finset.range 27, tap (ynAt y μ ν a) i.val t k p.val) * ((27⁻¹ : ℝ) : EReal)
  rw [Finset.sum_range]

end Cert.NormRef

end
-- ==== Proof.lean ====
/-  The certificate: the programs run and leave their arguments as they were; over the extended reals the dynamic
    convolution's kernel computes the plain one wherever every voxel's word names one of the four clusters, and the
    projection's kernel computes the plain projection, its mean and its reciprocal root wherever the arguments are finite,
    and the normalisation's kernel computes the plain normalisation and box mean of any arguments. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal.Run
public import proofs.«01_k».proof.Proof.Gen.ReferenceIdeal
public import proofs.«01_k».proof.Proof.Gen.Pre_asg_names_clusters
public import proofs.«01_k».proof.Proof.Gen.Project
public import proofs.«01_k».proof.Proof.Gen.Project.Frame
public import proofs.«01_k».proof.Proof.Gen.ProjectIdeal
public import proofs.«01_k».proof.Proof.Gen.ProjectIdeal.Frame
public import proofs.«01_k».proof.Proof.Gen.ProjectionIdeal
public import proofs.«01_k».proof.Proof.Gen.Normalise
public import proofs.«01_k».proof.Proof.Gen.Normalise.Frame
public import proofs.«01_k».proof.Proof.Gen.NormaliseIdeal
public import proofs.«01_k».proof.Proof.Gen.NormaliseIdeal.Frame
public import proofs.«01_k».proof.Proof.Gen.NormalisationIdeal.Run
public import proofs.«01_k».proof.Proof.Gen.NormalisationIdeal
public import proofs.«01_k».proof.Proof.Gen.Pre_finite
public import proofs.«01_k».proof.Proof.DynEq
public import proofs.«01_k».proof.Proof.ProjEq
public import proofs.«01_k».proof.Proof.NormRef
public import Idealize.ShloMosaic.Lib.Claim
public import Idealize.ShloMosaic.Lib.Quiescent
public import Idealize.ShloMosaic.Lib.ReduceAll

@[expose] public section

noncomputable section

namespace Cert.Proof

open Idealize.ShloMosaic Idealize.SL.Sem

attribute [local instance] Cert.Kernel.Gen.facts Cert.KernelIdeal.Gen.facts Cert.ReferenceIdeal.Gen.facts
  Cert.Project.Gen.facts Cert.ProjectIdeal.Gen.facts Cert.ProjectionIdeal.Gen.facts
  Cert.Normalise.Gen.facts Cert.NormaliseIdeal.Gen.facts Cert.NormalisationIdeal.Gen.facts Cert.Pre_asg_names_clusters.Gen.facts Cert.Pre_finite.Gen.facts

/-- The plain program runs, leaves its arguments alone, and ends with every counter at zero. -/
theorem reference_frame : Cert.quiescent_ReferenceIdeal := by
  intro m g _
  exact (θ_run _ _ _).mono (fun r h => ⟨fun c => (h c).2, sem_eq_zero_of_no_sems (by decide) r.2⟩) (Cert.ReferenceIdeal.Value.run m g)

/-- What the precondition says of each voxel's word. -/
theorem clusters (m : (ℓ : Loc Cert.KernelIdeal.nD Cert.KernelIdeal.τ Cert.KernelIdeal.sig) → Buf (Elt Ideal) ℓ)
    (hpre : Cert.Pre_KernelIdeal_asg_names_clusters m) (c : Dev Cert.KernelIdeal.nD) (d : Fin 64) (p : Fin 4096) :
    ∃ j : Fin 4, Cert.Dyn.aAsg m c (ix2 d p) = BitVec.ofNat 32 j.val := by
  have e := congrFun (hpre c) (ix2 d p)
  simp only [Pre_asg_names_clusters.fn, andi, cmpi, broadcastInDim, constantI] at e
  exact Cert.DynEq.exists_cluster _ e

/-- From the same arguments the kernel and the plain program leave the same result. -/
theorem dynamic_convolution : Cert.algebraic_KernelIdeal_ReferenceIdeal_pre_asg_names_clusters := by
  intro m g m' g' hpre hagree
  refine ⟨fun c => Cert.Dyn.OUT m c, ?_, ?_⟩
  · exact (θ_run _ _ _).mono (fun _ h c => ⟨h.1 c, h.2.1 c⟩) (θ_run_and (Cert.Dyn.run m g) (Cert.KernelIdeal.Gen.frame m g))
  · refine (θ_run _ _ _).mono (fun _ h c => ⟨(h c).1.trans ?_, (h c).2⟩) (Cert.ReferenceIdeal.Value.run m' g')
    obtain ⟨h0, h1, h2, h3, h4, h5, h6⟩ := hagree c
    exact Cert.DynEq.out_eq m m' c h0 h1 h2 h3 h4 h5 h6 (clusters m hpre c)

/-- The plain projection runs, leaves its arguments alone, and ends with every counter at zero. -/
theorem projection_frame : Cert.quiescent_ProjectionIdeal := by
  intro m g _
  exact (θ_run _ _ _).mono (fun r h => ⟨fun c => (h c).2.2.2, sem_eq_zero_of_no_sems (by decide) r.2⟩) (Cert.ProjRef.run m g)

/-- What the precondition says of the projection's arguments. -/
theorem finite (m : (ℓ : Loc Cert.ProjectIdeal.nD Cert.ProjectIdeal.τ Cert.ProjectIdeal.sig) → Buf (Elt Ideal) ℓ)
    (hpre : Cert.Pre_ProjectIdeal_finite m) (c : Dev Cert.ProjectIdeal.nD) : Cert.ProjEq.Finite m c := by
  have e := congrFun (hpre c) ix0
  simp only [Pre_finite.fn, andi] at e
  obtain ⟨exw, eb⟩ := IntOp.andi_eq_one.mp e
  obtain ⟨ex, ew⟩ := IntOp.andi_eq_one.mp exw
  exact ⟨fun i => Cert.ProjEq.isNum_of_abs (Host.reduce_andi_all _ _ _ _ _ ex i),
    fun i => Cert.ProjEq.isNum_of_abs (Host.reduce_andi_all _ _ _ _ _ ew i),
    fun i => Cert.ProjEq.isNum_of_abs (Host.reduce_andi_all _ _ _ _ _ eb i)⟩

/-- From the same finite arguments the kernel and the plain program leave the same projection, mean and reciprocal root. -/
theorem projection : Cert.algebraic_ProjectIdeal_ProjectionIdeal_pre_finite := by
  intro m g m' g' hpre hagree
  refine ⟨fun c => Cert.Proj.OUTy (Cert.Proj.Y m c), fun c => Cert.Proj.OUTmu (Cert.Proj.ST m c), fun c => Cert.Proj.OUTinv (Cert.Proj.ST m c), ?_, ?_⟩
  · exact (θ_run _ _ _).mono (fun _ h c => ⟨(h.1 c).1, (h.1 c).2.1, (h.1 c).2.2, h.2.1 c⟩) (θ_run_and (Cert.Proj.run m g) (Cert.ProjectIdeal.Gen.frame m g))
  · refine (θ_run _ _ _).mono (fun _ h c => ?_) (Cert.ProjRef.run m' g')
    obtain ⟨h0, h1, h2⟩ := hagree c
    obtain ⟨hy, hmu, hinv, hargs⟩ := h c
    exact ⟨hy.trans (Cert.ProjEq.y_eq m m' c h0 h1 h2), hmu.trans (Cert.ProjEq.mean_eq m m' c h0 h1 h2),
      hinv.trans (Cert.ProjEq.inv_eq m m' c h0 h1 h2 (finite m hpre c)), hargs⟩

/-- The plain normalisation runs, leaves its arguments alone, and ends with every counter at zero. -/
theorem normalisation_frame : Cert.quiescent_NormalisationIdeal := by
  intro m g _
  exact (θ_run _ _ _).mono (fun r h => ⟨fun c => (h c).2.2, sem_eq_zero_of_no_sems (by decide) r.2⟩) (Cert.NormalisationIdeal.Value.run m g)

/-- From the same arguments the kernel and the plain program leave the same normalised volume and the same box means. -/
theorem normalisation : Cert.algebraic_NormaliseIdeal_NormalisationIdeal := by
  intro m g m' g' _ hagree
  refine ⟨fun c => Cert.Norm.outYn (Cert.Norm.aY m c) (Cert.Norm.aMu m c) (Cert.Norm.aInv m c) (Cert.Norm.aA m c),
    fun c => Cert.Norm.outXm (Cert.Norm.aY m c) (Cert.Norm.aMu m c) (Cert.Norm.aInv m c) (Cert.Norm.aA m c), ?_, ?_⟩
  · exact (θ_run _ _ _).mono (fun _ h c => ⟨(h.1 c).1, (h.1 c).2, h.2.1 c⟩) (θ_run_and (Cert.Norm.run m g) (Cert.NormaliseIdeal.Gen.frame m g))
  · refine (θ_run _ _ _).mono (fun _ h c => ?_) (Cert.NormalisationIdeal.Value.run m' g')
    obtain ⟨h0, h1, h2, h3⟩ := hagree c
    obtain ⟨hy, hx, hargs⟩ := h c
    have e0 : Cert.NormRef.aY m' c = Cert.Norm.aY m c := h0
    have e1 : Cert.NormRef.aMu m' c = Cert.Norm.aMu m c := h1
    have e2 : Cert.NormRef.aInv m' c = Cert.Norm.aInv m c := h2
    have e3 : Cert.NormRef.aA m' c = Cert.Norm.aA m c := h3
    have hn := Cert.NormRef.planes_eq (Cert.NormRef.aY m' c) (Cert.NormRef.aMu m' c) (Cert.NormRef.aInv m' c) (Cert.NormRef.aA m' c)
    have hb := Cert.NormRef.mean_eq (Cert.NormRef.aY m' c) (Cert.NormRef.aMu m' c) (Cert.NormRef.aInv m' c) (Cert.NormRef.aA m' c)
    refine ⟨(hy.trans hn).trans ?_, ((hx.trans (Cert.NormRef.res_eq m' c)).trans hb).trans ?_, hargs⟩
    · rw [e0, e1, e2, e3]
    · rw [e0, e1, e2, e3]

theorem claim : Cert.Claim := ⟨Cert.Kernel.Gen.facts, Cert.KernelIdeal.Gen.facts, Cert.ReferenceIdeal.Gen.facts,
  Cert.Project.Gen.facts, Cert.ProjectIdeal.Gen.facts, Cert.ProjectionIdeal.Gen.facts,
  Cert.Normalise.Gen.facts, Cert.NormaliseIdeal.Gen.facts, Cert.NormalisationIdeal.Gen.facts,
  Cert.Pre_asg_names_clusters.Gen.facts, Cert.Pre_finite.Gen.facts,
  fun m g _ => Cert.Kernel.Gen.frame m g,
  fun m g _ => Cert.KernelIdeal.Gen.frame m g,
  fun m g _ => Cert.KernelIdeal.Gen.frame m g,
  reference_frame,
  fun m g _ => reference_frame m g trivial,
  fun m g _ => Cert.Project.Gen.frame m g,
  fun m g _ => Cert.ProjectIdeal.Gen.frame m g,
  fun m g _ => Cert.ProjectIdeal.Gen.frame m g,
  projection_frame,
  fun m g _ => projection_frame m g trivial,
  fun m g _ => Cert.Normalise.Gen.frame m g,
  fun m g _ => Cert.NormaliseIdeal.Gen.frame m g,
  normalisation_frame,
  trivial,
  dynamic_convolution,
  trivial,
  projection,
  IdealRules.named_const.statement Cert.NormaliseIdeal.κ "inv_27" .f32 0x3D17B426#32 ((27⁻¹ : ℝ) : EReal) rfl,
  normalisation⟩

end Cert.Proof

end
